-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_cnt" .f32 0x35A7C5AC#32 ((1 / 800000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3x100000 : Shape := ⟨3, ![8, 3, 100000]⟩
abbrev S8x16x100000 : Shape := ⟨3, ![8, 16, 100000]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S_ : Shape := ⟨0, ![]⟩

class Facts : Prop where
  bcast_S_S32 : S_.BroadcastsInDim S32 (![] : Fin 0 → Fin S32.rank)
  bcast_S_S64 : S_.BroadcastsInDim S64 (![] : Fin 0 → Fin S64.rank)

variable [Facts]

def fn {F : FTy → Type} [FloatOps F] (main_arg0 : FVec F S8x3x100000 .f32) (main_arg1 : FVec F S8x16x100000 .f32) (main_arg2 : FVec F S32x19 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) (main_arg10 : FVec F S64x32 .f32) (main_arg11 : FVec F S64 .f32) (main_arg12 : FVec F S64 .f32) (main_arg13 : FVec F S64 .f32) : IVec S32 1 × IVec S32 1 × IVec S32 1 × IVec S32 1 × IVec S64 1 × IVec S64 1 :=
  let main_v0 : FVec F S32 .f32 := Host.absf main_arg3
  let main_cst : FVec F S_ .f32 := constant S_ .f32 0x7F800000#32
  let main_v1 : FVec F S32 .f32 := broadcastInDim S32 ![] bcast_S_S32 main_cst
  let main_v2 : IVec S32 1 := cmpf .olt main_v0 main_v1
  let main_v3 : FVec F S32 .f32 := Host.absf main_arg4
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : FVec F S32 .f32 := Host.absf main_arg7
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg8
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S64 .f32 := Host.absf main_arg11
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg12
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Kernel.lean ====
abbrev S8x3x100000 : Shape := ⟨3, ![8, 3, 100000]⟩
abbrev S8x16x100000 : Shape := ⟨3, ![8, 16, 100000]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S96x32 : Shape := ⟨2, ![96, 32]⟩
abbrev S256 : Shape := ⟨1, ![256]⟩
abbrev S256x1 : Shape := ⟨2, ![256, 1]⟩
abbrev S64x8 : Shape := ⟨2, ![64, 8]⟩
abbrev S1x3x100352 : Shape := ⟨3, ![1, 3, 100352]⟩
abbrev S1x16x100352 : Shape := ⟨3, ![1, 16, 100352]⟩
abbrev S32x2 : Shape := ⟨2, ![32, 2]⟩
abbrev S64x2 : Shape := ⟨2, ![64, 2]⟩
abbrev S32x3 : Shape := ⟨2, ![32, 3]⟩
abbrev S32x16 : Shape := ⟨2, ![32, 16]⟩
abbrev S32x1 : Shape := ⟨2, ![32, 1]⟩
abbrev S3x100352 : Shape := ⟨2, ![3, 100352]⟩
abbrev S3x25088 : Shape := ⟨2, ![3, 25088]⟩
abbrev S32x25088 : Shape := ⟨2, ![32, 25088]⟩
abbrev S16x100352 : Shape := ⟨2, ![16, 100352]⟩
abbrev S16x25088 : Shape := ⟨2, ![16, 25088]⟩
abbrev S32x24736 : Shape := ⟨2, ![32, 24736]⟩
abbrev S64x25088 : Shape := ⟨2, ![64, 25088]⟩
abbrev S64x1 : Shape := ⟨2, ![64, 1]⟩
abbrev S64x24736 : Shape := ⟨2, ![64, 24736]⟩
abbrev S1x8 : Shape := ⟨2, ![1, 8]⟩
abbrev S8x64 : Shape := ⟨2, ![8, 64]⟩
abbrev S8x64x1 : Shape := ⟨3, ![8, 64, 1]⟩
abbrev S_ : Shape := ⟨0, ![]⟩
abbrev S8x3x1 : Shape := ⟨3, ![8, 3, 1]⟩

abbrev nBuf : Space → Nat
  | .hbm => 22
  | .vmem => 18
  | .smem => 0
  | _ => 0

abbrev bufTy : (tb : Table) → Fin (tcTables nBuf tb) → BufTy
  | .hbm, ⟨0, _⟩ => ⟨S8x3x100000, .f32⟩
  | .hbm, ⟨1, _⟩ => ⟨S8x16x100000, .f32⟩
  | .hbm, ⟨2, _⟩ => ⟨S32x19, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S64x32, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S96x32, .f32⟩
  | .hbm, ⟨15, _⟩ => ⟨S256, .f32⟩
  | .hbm, ⟨16, _⟩ => ⟨S256x1, .f32⟩
  | .hbm, ⟨17, _⟩ => ⟨S64x8, .f32⟩
  | .hbm, ⟨18, _⟩ => ⟨S8x64, .f32⟩
  | .hbm, ⟨19, _⟩ => ⟨S8x64x1, .f32⟩
  | .hbm, ⟨20, _⟩ => ⟨S_, .f32⟩
  | .hbm, ⟨21, _⟩ => ⟨S8x3x1, .f32⟩
  | .local _ .vmem, ⟨0, _⟩ => ⟨S1x3x100352, .f32⟩
  | .local _ .vmem, ⟨1, _⟩ => ⟨S1x3x100352, .f32⟩
  | .local _ .vmem, ⟨2, _⟩ => ⟨S1x16x100352, .f32⟩
  | .local _ .vmem, ⟨3, _⟩ => ⟨S1x16x100352, .f32⟩
  | .local _ .vmem, ⟨4, _⟩ => ⟨S32x19, .f32⟩
  | .local _ .vmem, ⟨5, _⟩ => ⟨S96x32, .f32⟩
  | .local _ .vmem, ⟨6, _⟩ => ⟨S256x1, .f32⟩
  | .local _ .vmem, ⟨7, _⟩ => ⟨S64x8, .f32⟩
  | .local _ .vmem, ⟨8, _⟩ => ⟨S32x2, .f32⟩
  | .local _ .vmem, ⟨9, _⟩ => ⟨S32x2, .f32⟩
  | .local _ .vmem, ⟨10, _⟩ => ⟨S64x2, .f32⟩
  | .local _ .vmem, ⟨11, _⟩ => ⟨S64x8, .f32⟩
  | .local _ .vmem, ⟨12, _⟩ => ⟨S64x8, .f32⟩
  | .local _ .vmem, ⟨13, _⟩ => ⟨S32x3, .f32⟩
  | .local _ .vmem, ⟨14, _⟩ => ⟨S32x16, .f32⟩
  | .local _ .vmem, ⟨15, _⟩ => ⟨S32x1, .f32⟩
  | .local _ .vmem, ⟨16, _⟩ => ⟨S32x32, .f32⟩
  | .local _ .vmem, ⟨17, _⟩ => ⟨S32x1, .f32⟩
  | _, _ => ⟨S8x3x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![3, 8], ![false, false]⟩

def k0_cond5 (i : grid0.Coords) : BitVec 1 :=
  let arg0 : BitVec 32 := BitVec.ofNat 32 (i 0).val
  let c2_i32_6 : BitVec 32 := 2#32
  let v15 : BitVec 1 := Scalar.cmpi .eq arg0 c2_i32_6
  let v16 : BitVec 32 := Scalar.extui v15
  let c0_i32_7 : BitVec 32 := 0#32
  let v17 : BitVec 1 := Scalar.cmpi .ne v16 c0_i32_7
  v17

def k0_cond6 (i : grid0.Coords) : BitVec 1 :=
  let arg1 : BitVec 32 := BitVec.ofNat 32 (i 1).val
  let c7_i32 : BitVec 32 := 7#32
  let v211 : BitVec 1 := Scalar.cmpi .eq arg1 c7_i32
  let v212 : BitVec 32 := Scalar.extui v211
  let c0_i32_135 : BitVec 32 := 0#32
  let v213 : BitVec 1 := Scalar.cmpi .ne v212 c0_i32_135
  v213

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x100352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x100352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "inv_cnt" => some ((1 / 800000 : ℝ) : EReal)
  | _ => none
-- ==== ReferenceIdeal.lean ====
abbrev S8x3x100000 : Shape := ⟨3, ![8, 3, 100000]⟩
abbrev S8x16x100000 : Shape := ⟨3, ![8, 16, 100000]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S8x100000x3 : Shape := ⟨3, ![8, 100000, 3]⟩
abbrev S8x100000x16 : Shape := ⟨3, ![8, 100000, 16]⟩
abbrev S_ : Shape := ⟨0, ![]⟩
abbrev S8x1x3 : Shape := ⟨3, ![8, 1, 3]⟩
abbrev S8x1x100000x3 : Shape := ⟨4, ![8, 1, 100000, 3]⟩
abbrev S8x1x100000x16 : Shape := ⟨4, ![8, 1, 100000, 16]⟩
abbrev S8x1x100000x19 : Shape := ⟨4, ![8, 1, 100000, 19]⟩
abbrev S8x19x100000x1 : Shape := ⟨4, ![8, 19, 100000, 1]⟩
abbrev S8x100000x1x32 : Shape := ⟨4, ![8, 100000, 1, 32]⟩
abbrev S8x32x100000x1 : Shape := ⟨4, ![8, 32, 100000, 1]⟩
abbrev S1x32x1x1 : Shape := ⟨4, ![1, 32, 1, 1]⟩
abbrev S8x100000x1x64 : Shape := ⟨4, ![8, 100000, 1, 64]⟩
abbrev S8x64x100000x1 : Shape := ⟨4, ![8, 64, 100000, 1]⟩
abbrev S1x64x1x1 : Shape := ⟨4, ![1, 64, 1, 1]⟩
abbrev S8x64x1 : Shape := ⟨3, ![8, 64, 1]⟩
abbrev S8x3x1 : Shape := ⟨3, ![8, 3, 1]⟩

abbrev nBuf : Space → Nat
  | .hbm => 181
  | .vmem => 0
  | .smem => 0
  | _ => 0

abbrev hbmTy0_0 (i : Nat) : BufTy := match i % 128 with
  | 0 => ⟨S8x3x100000, .f32⟩
  | 1 => ⟨S8x16x100000, .f32⟩
  | 2 => ⟨S32x19, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S64x32, .f32⟩
  | 11 => ⟨S64, .f32⟩
  | 12 => ⟨S64, .f32⟩
  | 13 => ⟨S64, .f32⟩
  | 14 => ⟨S8x100000x3, .f32⟩
  | 15 => ⟨S8x100000x16, .f32⟩
  | 16 => ⟨S_, .f32⟩
  | 17 => ⟨S8x1x3, .f32⟩
  | 18 => ⟨S8x1x100000x3, .f32⟩
  | 19 => ⟨S8x1x100000x16, .f32⟩
  | 20 => ⟨S8x1x100000x19, .f32⟩
  | 21 => ⟨S8x19x100000x1, .f32⟩
  | 22 => ⟨S8x100000x1x32, .f32⟩
  | 23 => ⟨S8x32x100000x1, .f32⟩
  | 24 => ⟨S1x32x1x1, .f32⟩
  | 25 => ⟨S8x32x100000x1, .f32⟩
  | 26 => ⟨S8x32x100000x1, .f32⟩
  | 27 => ⟨S_, .f32⟩
  | 28 => ⟨S32, .f32⟩
  | 29 => ⟨S1x32x1x1, .f32⟩
  | 30 => ⟨S_, .f32⟩
  | 31 => ⟨S1x32x1x1, .f32⟩
  | 32 => ⟨S1x32x1x1, .f32⟩
  | 33 => ⟨S_, .i32⟩
  | 34 => ⟨S_, .f32⟩
  | 35 => ⟨S32, .f32⟩
  | 36 => ⟨S1x32x1x1, .f32⟩
  | 37 => ⟨S_, .f32⟩
  | 38 => ⟨S1x32x1x1, .f32⟩
  | 39 => ⟨S1x32x1x1, .f32⟩
  | 40 => ⟨S8x32x100000x1, .f32⟩
  | 41 => ⟨S8x32x100000x1, .f32⟩
  | 42 => ⟨S8x32x100000x1, .f32⟩
  | 43 => ⟨S_, .f32⟩
  | 44 => ⟨S_, .f32⟩
  | 45 => ⟨S_, .f32⟩
  | 46 => ⟨S_, .f32⟩
  | 47 => ⟨S32, .f32⟩
  | 48 => ⟨S1x32x1x1, .f32⟩
  | 49 => ⟨S1x32x1x1, .f32⟩
  | 50 => ⟨S1x32x1x1, .f32⟩
  | 51 => ⟨S_, .f32⟩
  | 52 => ⟨S_, .i1⟩
  | 53 => ⟨S_, .f32⟩
  | 54 => ⟨S_, .f32⟩
  | 55 => ⟨S1x32x1x1, .f32⟩
  | 56 => ⟨S1x32x1x1, .f32⟩
  | 57 => ⟨S8x32x100000x1, .f32⟩
  | 58 => ⟨S8x32x100000x1, .f32⟩
  | 59 => ⟨S_, .f32⟩
  | 60 => ⟨S1x32x1x1, .f32⟩
  | 61 => ⟨S1x32x1x1, .f32⟩
  | 62 => ⟨S1x32x1x1, .f32⟩
  | 63 => ⟨S8x32x100000x1, .f32⟩
  | 64 => ⟨S8x32x100000x1, .f32⟩
  | 65 => ⟨S1x32x1x1, .f32⟩
  | 66 => ⟨S8x32x100000x1, .f32⟩
  | 67 => ⟨S8x32x100000x1, .f32⟩
  | 68 => ⟨S1x32x1x1, .f32⟩
  | 69 => ⟨S8x32x100000x1, .f32⟩
  | 70 => ⟨S8x32x100000x1, .f32⟩
  | 71 => ⟨S_, .f32⟩
  | 72 => ⟨S8x32x100000x1, .f32⟩
  | 73 => ⟨S8x32x100000x1, .f32⟩
  | 74 => ⟨S8x100000x1x32, .f32⟩
  | 75 => ⟨S8x32x100000x1, .f32⟩
  | 76 => ⟨S1x32x1x1, .f32⟩
  | 77 => ⟨S8x32x100000x1, .f32⟩
  | 78 => ⟨S8x32x100000x1, .f32⟩
  | 79 => ⟨S_, .f32⟩
  | 80 => ⟨S32, .f32⟩
  | 81 => ⟨S1x32x1x1, .f32⟩
  | 82 => ⟨S_, .f32⟩
  | 83 => ⟨S1x32x1x1, .f32⟩
  | 84 => ⟨S1x32x1x1, .f32⟩
  | 85 => ⟨S_, .i32⟩
  | 86 => ⟨S_, .f32⟩
  | 87 => ⟨S32, .f32⟩
  | 88 => ⟨S1x32x1x1, .f32⟩
  | 89 => ⟨S_, .f32⟩
  | 90 => ⟨S1x32x1x1, .f32⟩
  | 91 => ⟨S1x32x1x1, .f32⟩
  | 92 => ⟨S8x32x100000x1, .f32⟩
  | 93 => ⟨S8x32x100000x1, .f32⟩
  | 94 => ⟨S8x32x100000x1, .f32⟩
  | 95 => ⟨S_, .f32⟩
  | 96 => ⟨S_, .f32⟩
  | 97 => ⟨S_, .f32⟩
  | 98 => ⟨S_, .f32⟩
  | 99 => ⟨S32, .f32⟩
  | 100 => ⟨S1x32x1x1, .f32⟩
  | 101 => ⟨S1x32x1x1, .f32⟩
  | 102 => ⟨S1x32x1x1, .f32⟩
  | 103 => ⟨S_, .f32⟩
  | 104 => ⟨S_, .i1⟩
  | 105 => ⟨S_, .f32⟩
  | 106 => ⟨S_, .f32⟩
  | 107 => ⟨S1x32x1x1, .f32⟩
  | 108 => ⟨S1x32x1x1, .f32⟩
  | 109 => ⟨S8x32x100000x1, .f32⟩
  | 110 => ⟨S8x32x100000x1, .f32⟩
  | 111 => ⟨S_, .f32⟩
  | 112 => ⟨S1x32x1x1, .f32⟩
  | 113 => ⟨S1x32x1x1, .f32⟩
  | 114 => ⟨S1x32x1x1, .f32⟩
  | 115 => ⟨S8x32x100000x1, .f32⟩
  | 116 => ⟨S8x32x100000x1, .f32⟩
  | 117 => ⟨S1x32x1x1, .f32⟩
  | 118 => ⟨S8x32x100000x1, .f32⟩
  | 119 => ⟨S8x32x100000x1, .f32⟩
  | 120 => ⟨S1x32x1x1, .f32⟩
  | 121 => ⟨S8x32x100000x1, .f32⟩
  | 122 => ⟨S8x32x100000x1, .f32⟩
  | 123 => ⟨S_, .f32⟩
  | 124 => ⟨S8x32x100000x1, .f32⟩
  | 125 => ⟨S8x32x100000x1, .f32⟩
  | 126 => ⟨S8x100000x1x64, .f32⟩
  | 127 => ⟨S8x64x100000x1, .f32⟩
  | _ => ⟨S8x3x100000, .f32⟩

abbrev hbmTy0_1 (i : Nat) : BufTy := match i % 128 with
  | 0 => ⟨S1x64x1x1, .f32⟩
  | 1 => ⟨S8x64x100000x1, .f32⟩
  | 2 => ⟨S8x64x100000x1, .f32⟩
  | 3 => ⟨S_, .f32⟩
  | 4 => ⟨S64, .f32⟩
  | 5 => ⟨S1x64x1x1, .f32⟩
  | 6 => ⟨S_, .f32⟩
  | 7 => ⟨S1x64x1x1, .f32⟩
  | 8 => ⟨S1x64x1x1, .f32⟩
  | 9 => ⟨S_, .i32⟩
  | 10 => ⟨S_, .f32⟩
  | 11 => ⟨S64, .f32⟩
  | 12 => ⟨S1x64x1x1, .f32⟩
  | 13 => ⟨S_, .f32⟩
  | 14 => ⟨S1x64x1x1, .f32⟩
  | 15 => ⟨S1x64x1x1, .f32⟩
  | 16 => ⟨S8x64x100000x1, .f32⟩
  | 17 => ⟨S8x64x100000x1, .f32⟩
  | 18 => ⟨S8x64x100000x1, .f32⟩
  | 19 => ⟨S_, .f32⟩
  | 20 => ⟨S_, .f32⟩
  | 21 => ⟨S_, .f32⟩
  | 22 => ⟨S_, .f32⟩
  | 23 => ⟨S64, .f32⟩
  | 24 => ⟨S1x64x1x1, .f32⟩
  | 25 => ⟨S1x64x1x1, .f32⟩
  | 26 => ⟨S1x64x1x1, .f32⟩
  | 27 => ⟨S_, .f32⟩
  | 28 => ⟨S_, .i1⟩
  | 29 => ⟨S_, .f32⟩
  | 30 => ⟨S_, .f32⟩
  | 31 => ⟨S1x64x1x1, .f32⟩
  | 32 => ⟨S1x64x1x1, .f32⟩
  | 33 => ⟨S8x64x100000x1, .f32⟩
  | 34 => ⟨S8x64x100000x1, .f32⟩
  | 35 => ⟨S_, .f32⟩
  | 36 => ⟨S1x64x1x1, .f32⟩
  | 37 => ⟨S1x64x1x1, .f32⟩
  | 38 => ⟨S1x64x1x1, .f32⟩
  | 39 => ⟨S8x64x100000x1, .f32⟩
  | 40 => ⟨S8x64x100000x1, .f32⟩
  | 41 => ⟨S1x64x1x1, .f32⟩
  | 42 => ⟨S8x64x100000x1, .f32⟩
  | 43 => ⟨S8x64x100000x1, .f32⟩
  | 44 => ⟨S1x64x1x1, .f32⟩
  | 45 => ⟨S8x64x100000x1, .f32⟩
  | 46 => ⟨S8x64x100000x1, .f32⟩
  | 47 => ⟨S_, .f32⟩
  | 48 => ⟨S8x64x100000x1, .f32⟩
  | 49 => ⟨S8x64x100000x1, .f32⟩
  | 50 => ⟨S_, .f32⟩
  | 51 => ⟨S8x64x1, .f32⟩
  | 52 => ⟨S8x3x1, .f32⟩
  | _ => ⟨S8x3x100000, .f32⟩

abbrev hbmTy (i : Nat) : BufTy := match i / 128 with
  | 0 => hbmTy0_0 i
  | 1 => hbmTy0_1 i
  | _ => ⟨S8x3x100000, .f32⟩

abbrev bufTy : (tb : Table) → Fin (tcTables nBuf tb) → BufTy
  | .hbm, ⟨i, _⟩ => hbmTy i
  | _, _ => ⟨S8x3x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_2 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call1_cst : Ref sig .tc := ⟨.hbm, 71, rfl⟩
abbrev main_call1_v0 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_3 : Ref sig .tc := ⟨.hbm, 79, rfl⟩
abbrev main_v36 : Ref sig .tc := ⟨.hbm, 80, rfl⟩
abbrev main_v37 : Ref sig .tc := ⟨.hbm, 81, rfl⟩
abbrev main_cst_4 : Ref sig .tc := ⟨.hbm, 82, rfl⟩
abbrev main_v38 : Ref sig .tc := ⟨.hbm, 83, rfl⟩
abbrev main_v39 : Ref sig .tc := ⟨.hbm, 84, rfl⟩
abbrev main_c_5 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_cst_3 : Ref sig .tc := ⟨.hbm, 103, rfl⟩
abbrev main_call2_v13 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_6 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_call3_cst : Ref sig .tc := ⟨.hbm, 123, rfl⟩
abbrev main_call3_v0 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_7 : Ref sig .tc := ⟨.hbm, 131, rfl⟩
abbrev main_v60 : Ref sig .tc := ⟨.hbm, 132, rfl⟩
abbrev main_v61 : Ref sig .tc := ⟨.hbm, 133, rfl⟩
abbrev main_cst_8 : Ref sig .tc := ⟨.hbm, 134, rfl⟩
abbrev main_v62 : Ref sig .tc := ⟨.hbm, 135, rfl⟩
abbrev main_v63 : Ref sig .tc := ⟨.hbm, 136, rfl⟩
abbrev main_c_9 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_cst_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_v6 : Ref sig .tc := ⟨.hbm, 146, rfl⟩
abbrev main_call4_v7 : Ref sig .tc := ⟨.hbm, 147, rfl⟩
abbrev main_call4_cst_1 : Ref sig .tc := ⟨.hbm, 148, rfl⟩
abbrev main_call4_v8 : Ref sig .tc := ⟨.hbm, 149, rfl⟩
abbrev main_call4_cst_2 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_v12 : Ref sig .tc := ⟨.hbm, 154, rfl⟩
abbrev main_call4_cst_3 : Ref sig .tc := ⟨.hbm, 155, rfl⟩
abbrev main_call4_v13 : Ref sig .tc := ⟨.hbm, 156, rfl⟩
abbrev main_call4_cst_4 : Ref sig .tc := ⟨.hbm, 157, rfl⟩
abbrev main_call4_call0_v0 : Ref sig .tc := ⟨.hbm, 158, rfl⟩
abbrev main_call4_call0_v1 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_cst_10 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_call5_cst : Ref sig .tc := ⟨.hbm, 175, rfl⟩
abbrev main_call5_v0 : Ref sig .tc := ⟨.hbm, 176, rfl⟩
abbrev main_v78 : Ref sig .tc := ⟨.hbm, 177, rfl⟩
abbrev main_cst_11 : Ref sig .tc := ⟨.hbm, 178, rfl⟩
abbrev main_v79 : Ref sig .tc := ⟨.hbm, 179, rfl⟩
abbrev main_v80 : Ref sig .tc := ⟨.hbm, 180, rfl⟩

abbrev nD : Nat := 1
abbrev τ : Topo := Topo.v7x

variable {F : FTy → Type} [FloatOps F]
-- ==== Proof.KernelIdealRun.lean ====
/-
  The body of the idealized kernel, run once at symbolic operands and at every grid point: no access faults, and the five
  inputs' staging buffers end holding what they held. Nothing is said of what the output's and the ten scratch buffers hold at the end.
-/
module

public import proofs.«01_k».proof.Proof.Gen.KernelIdeal.Skeleton
public import proofs.«01_k».proof.Proof.Gen.KernelIdeal.Launch
public import Idealize.ShloMosaic.Lib.Tactic

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1600000 in
/-- The body's run, for any continuation: from the sixteen buffers it is handed (five inputs, the output, ten scratch) owned
    at any contents, at any grid point, it runs to its return owning them at some contents. -/
theorem body_owns (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (K : PUnit → sProp 𝕄) :
    iprop((∃ X, owns (c : Thread nD τ) M0 fullShare X) ∗ (∃ X, owns (c : Thread nD τ) M1 fullShare X) ∗ (∃ X, owns (c : Thread nD τ) M2 fullShare X) ∗ (∃ X, owns (c : Thread nD τ) M3 fullShare X) ∗ (∃ X, owns (c : Thread nD τ) M4 fullShare X)
        ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X)
        ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M14 fullShare X) ∗ (∃ X, owns (c : Thread nD τ) M15 fullShare X)
        ∗ (iprop((∃ X, owns (c : Thread nD τ) M0 fullShare X) ∗ (∃ X, owns (c : Thread nD τ) M1 fullShare X) ∗ (∃ X, owns (c : Thread nD τ) M2 fullShare X) ∗ (∃ X, owns (c : Thread nD τ) M3 fullShare X) ∗ (∃ X, owns (c : Thread nD τ) M4 fullShare X)
        ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X)
        ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M14 fullShare X) ∗ (∃ X, owns (c : Thread nD τ) M15 fullShare X)) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%X0, %f0, -, H0⟩, ⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩, ⟨%X12, %f12, -, H12⟩, ⟨%X13, %f13, -, H13⟩, ⟨%X14, %f14, -, H14⟩, ⟨%X15, %f15, -, H15⟩, Hk⟩
  sl_exec_parts
  sl_step
  iapply Hk
  isplitl [H0]
  · iexists _, _; isplitr; swap; · iexact H0
    ipureintro; rfl
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Hand

end
-- ==== Proof.KernelIdealFrame.lean ====
/-
  The frame of the idealized kernel: every run of @main terminates without a fault, the fourteen arguments end unchanged and every
  semaphore counter ends at zero. The pipeline's staging buffers are all left unnamed: an input's array is only ever read, so it
  keeps its contents whatever its staging buffer holds; the output's array is no argument.
-/
module

public import proofs.«01_k».proof.Proof.Gen.KernelIdeal.Frame
public import proofs.«01_k».proof.Proof.KernelIdealRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- Every window's staging buffer is left unnamed. -/
def unnamed0 : Fin 6 → Bool := fun _ => true

/-- The proof data on core `c`: the arrays as the region finds them, scratch at anything, full shares, nothing owed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by dsimp only [fdats]

/-- The region's invariant, buffer by buffer: the ten scratch buffers at some contents and the generator register at some state. -/
theorem PhiA_eq (c : Dev nD) :
    (Pipeline.ΦA spec0 c : sProp 𝕄) = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X)) ∗ ∃ r, prngReg c r) := by
  unfold Pipeline.ΦA; rw [scopedRest0_eq]; simp only [owns_whole]

/-- Window 0's staging memref at point `t`. -/
abbrev ms0 (t : Fin cfg0.N) : Memref sig .tc .vmem S1x3x100352 .f32 := win0_0.stage (cfg0.slots t 0)
/-- Window 1's staging memref at point `t`. -/
abbrev ms1 (t : Fin cfg0.N) : Memref sig .tc .vmem S1x16x100352 .f32 := win0_1.stage (cfg0.slots t 1)
/-- Window 2's staging memref at point `t`. -/
abbrev ms2 (t : Fin cfg0.N) : Memref sig .tc .vmem S32x19 .f32 := win0_2.stage (cfg0.slots t 2)
/-- Window 3's staging memref at point `t`. -/
abbrev ms3 (t : Fin cfg0.N) : Memref sig .tc .vmem S96x32 .f32 := win0_3.stage (cfg0.slots t 3)
/-- Window 4's staging memref at point `t`. -/
abbrev ms4 (t : Fin cfg0.N) : Memref sig .tc .vmem S256x1 .f32 := win0_4.stage (cfg0.slots t 4)
/-- Window 5's staging memref at point `t`. -/
abbrev ms5 (t : Fin cfg0.N) : Memref sig .tc .vmem S64x8 .f32 := win0_5.stage (cfg0.slots t 5)

/-- What the body is called with at point `t`, and what it returns. -/
def fbody (c : Dev nD) (t : Fin cfg0.N) : sProp 𝕄 :=
  iprop(Pipeline.ΦA spec0 c ∗ (fdats m 0 c).owesAt () t.castSucc ∗ (∃ X, owns (c : Thread nD τ) (ms0 t) fullShare X) ∗ (∃ X, owns (c : Thread nD τ) (ms1 t) fullShare X) ∗ (∃ X, owns (c : Thread nD τ) (ms2 t) fullShare X) ∗ (∃ X, owns (c : Thread nD τ) (ms3 t) fullShare X) ∗ (∃ X, owns (c : Thread nD τ) (ms4 t) fullShare X) ∗ (∃ X, owns (c : Thread nD τ) (ms5 t) fullShare X))

set_option maxHeartbeats 1600000 in
/-- The body at point `t`: the invariant opened, the run, the invariant closed. -/
theorem fsound_body (c : Dev nD) (t : Fin cfg0.N) :
    fbody m c t ⊢ wp frame (wpE (defs₀ (F := F)) Variants.none c none) Set.univ (bodyAt0 t) (fun _ => fbody m c t) := by
  unfold fbody bodyAt0
  rw [PhiA_eq]
  iintro ⟨⟨⟨S0, S1, S2, S3, S4, S5, S6, S7, S8, S9⟩, Hg⟩, HO, H0, H1, H2, H3, H4, H5⟩
  iapply (body_owns c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, S0, S1, S2, S3, S4, S5, S6, S7, S8, S9⟩
  isplitl [Hg S0 S1 S2 S3 S4 S5 S6 S7 S8 S9]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation with every staging buffer unnamed. -/
theorem fbody_obligation (c : Dev nD) :
    BodyObligation (fdats (F := F) m 0 c) (defs₀ (F := F)) Variants.none () Set.univ unnamed0 := fun t => by
  rw [bigSep_W0, bigSep_W0, defs₀_row]
  exact triple_restated (fsound_body m c t) rfl .rfl fun _ => .rfl

/-- The buffers the host's lines after the region write. -/
def tailWrites : Finset (Ref sig .tc) := {main_v4, main_v5, main_cst, main_v6}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.nullary_writes, StableHlo.unary_writes, StableHlo.binary_writes, Finset.mem_singleton] at hb <;>
    (have := Proc.devRef_injective _ hb; subst this; decide)

set_option backward.isDefEq.respectTransparency.types false in
/-- The run of @main: the arrays of the input windows and every buffer neither a window's array nor written after the region keep
    what they held at the region's entry, and the counters end at zero. -/
theorem frun_main :
    θ_run defs (onTc (τ := τ) (main (F := F))) (s₀ m ρ)
      (fun r => Pipeline.RDat.FramePostR (cfgs 0) (fun c => (fdats m 0 c).toRForget unnamed0) tailWrites (V m) r ∧ r.2.sem = fun _ => 0) :=
  Pipeline.θ_run_frame_around_T_track_forget (Q' := _) cfgs (fdats m) (0 : Fin 1) launch0 defs₀ Variants.none unnamed0 tailWrites m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m)
    (hin := fun _ => .rfl) (hout := fun _ => .rfl)

/-- The frame: the arguments end as they began and the counters end at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨
    (h.1.arr_in c 0 rfl).trans ((fA_eq m c 0).trans (V_main_arg0 m c)),
    (h.1.arr_in c 1 rfl).trans ((fA_eq m c 1).trans (V_main_arg1 m c)),
    (h.1.arr_in c 2 rfl).trans ((fA_eq m c 2).trans (V_main_arg2 m c)),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c),
    ((h.1 c).2 main_arg9 (Finset.mem_sdiff.mpr ⟨Pipeline.mem_restRefs_of main_arg9 (by decide) (by decide), by decide⟩)).trans (V_main_arg9 m c),
    ((h.1 c).2 main_arg10 (Finset.mem_sdiff.mpr ⟨Pipeline.mem_restRefs_of main_arg10 (by decide) (by decide), by decide⟩)).trans (V_main_arg10 m c),
    ((h.1 c).2 main_arg11 (Finset.mem_sdiff.mpr ⟨Pipeline.mem_restRefs_of main_arg11 (by decide) (by decide), by decide⟩)).trans (V_main_arg11 m c),
    ((h.1 c).2 main_arg12 (Finset.mem_sdiff.mpr ⟨Pipeline.mem_restRefs_of main_arg12 (by decide) (by decide), by decide⟩)).trans (V_main_arg12 m c),
    ((h.1 c).2 main_arg13 (Finset.mem_sdiff.mpr ⟨Pipeline.mem_restRefs_of main_arg13 (by decide) (by decide), by decide⟩)).trans (V_main_arg13 m c)⟩, h.2⟩) (frun_main m ρ)

end Cert.KernelIdeal.Hand

end
-- ==== Proof.Steps.lean ====
/-
  What one grid point of the idealized kernel leaves in each buffer it writes, as functions of what the buffers held before:
  the loads are read out of the given contents and the arithmetic is the program's own, value by value.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.FrameBody

@[expose] public section

set_option maxRecDepth 16384

noncomputable section

namespace Cert.KernelIdeal.Hand

open Cert.KernelIdeal.Gen Idealize.ShloMosaic.View

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

/-- The r_S1x16x100352_S1x16x100352_0_0_0 window a load or store addresses. -/
abbrev r_S1x16x100352_S1x16x100352_0_0_0 : Rect S1x16x100352 := Rect.unit (s := S1x16x100352) ![0, 0, 0] S1x16x100352.size inb_S1x16x100352_S1x16x100352_0_0_0

/-- The r_S1x3x100352_S1x3x100352_0_0_0 window a load or store addresses. -/
abbrev r_S1x3x100352_S1x3x100352_0_0_0 : Rect S1x3x100352 := Rect.unit (s := S1x3x100352) ![0, 0, 0] S1x3x100352.size inb_S1x3x100352_S1x3x100352_0_0_0

/-- The r_S256x1_S32x1_0_0 window a load or store addresses. -/
abbrev r_S256x1_S32x1_0_0 : Rect S256x1 := Rect.unit (s := S256x1) ![0, 0] S32x1.size inb_S256x1_S32x1_0_0

/-- The r_S256x1_S32x1_32_0 window a load or store addresses. -/
abbrev r_S256x1_S32x1_32_0 : Rect S256x1 := Rect.unit (s := S256x1) ![32, 0] S32x1.size inb_S256x1_S32x1_32_0

/-- The r_S256x1_S32x1_64_0 window a load or store addresses. -/
abbrev r_S256x1_S32x1_64_0 : Rect S256x1 := Rect.unit (s := S256x1) ![64, 0] S32x1.size inb_S256x1_S32x1_64_0

/-- The r_S256x1_S32x1_96_0 window a load or store addresses. -/
abbrev r_S256x1_S32x1_96_0 : Rect S256x1 := Rect.unit (s := S256x1) ![96, 0] S32x1.size inb_S256x1_S32x1_96_0

/-- The r_S256x1_S64x1_128_0 window a load or store addresses. -/
abbrev r_S256x1_S64x1_128_0 : Rect S256x1 := Rect.unit (s := S256x1) ![128, 0] S64x1.size inb_S256x1_S64x1_128_0

/-- The r_S256x1_S64x1_192_0 window a load or store addresses. -/
abbrev r_S256x1_S64x1_192_0 : Rect S256x1 := Rect.unit (s := S256x1) ![192, 0] S64x1.size inb_S256x1_S64x1_192_0

/-- The r_S32x16_S32x16_0_0 window a load or store addresses. -/
abbrev r_S32x16_S32x16_0_0 : Rect S32x16 := Rect.unit (s := S32x16) ![0, 0] S32x16.size inb_S32x16_S32x16_0_0

/-- The r_S32x19_S32x16_0_3 window a load or store addresses. -/
abbrev r_S32x19_S32x16_0_3 : Rect S32x19 := Rect.unit (s := S32x19) ![0, 3] S32x16.size inb_S32x19_S32x16_0_3

/-- The r_S32x19_S32x3_0_0 window a load or store addresses. -/
abbrev r_S32x19_S32x3_0_0 : Rect S32x19 := Rect.unit (s := S32x19) ![0, 0] S32x3.size inb_S32x19_S32x3_0_0

/-- The r_S32x1_S32x1_0_0 window a load or store addresses. -/
abbrev r_S32x1_S32x1_0_0 : Rect S32x1 := Rect.unit (s := S32x1) ![0, 0] S32x1.size inb_S32x1_S32x1_0_0

/-- The r_S32x2_S32x1_0_0 window a load or store addresses. -/
abbrev r_S32x2_S32x1_0_0 : Rect S32x2 := Rect.unit (s := S32x2) ![0, 0] S32x1.size inb_S32x2_S32x1_0_0

/-- The r_S32x2_S32x1_0_1 window a load or store addresses. -/
abbrev r_S32x2_S32x1_0_1 : Rect S32x2 := Rect.unit (s := S32x2) ![0, 1] S32x1.size inb_S32x2_S32x1_0_1

/-- The r_S32x2_S32x2_0_0 window a load or store addresses. -/
abbrev r_S32x2_S32x2_0_0 : Rect S32x2 := Rect.unit (s := S32x2) ![0, 0] S32x2.size inb_S32x2_S32x2_0_0

/-- The r_S32x32_S32x32_0_0 window a load or store addresses. -/
abbrev r_S32x32_S32x32_0_0 : Rect S32x32 := Rect.unit (s := S32x32) ![0, 0] S32x32.size inb_S32x32_S32x32_0_0

/-- The r_S32x3_S32x3_0_0 window a load or store addresses. -/
abbrev r_S32x3_S32x3_0_0 : Rect S32x3 := Rect.unit (s := S32x3) ![0, 0] S32x3.size inb_S32x3_S32x3_0_0

/-- The r_S64x2_S64x1_0_0 window a load or store addresses. -/
abbrev r_S64x2_S64x1_0_0 : Rect S64x2 := Rect.unit (s := S64x2) ![0, 0] S64x1.size inb_S64x2_S64x1_0_0

/-- The r_S64x2_S64x1_0_1 window a load or store addresses. -/
abbrev r_S64x2_S64x1_0_1 : Rect S64x2 := Rect.unit (s := S64x2) ![0, 1] S64x1.size inb_S64x2_S64x1_0_1

/-- The r_S64x2_S64x2_0_0 window a load or store addresses. -/
abbrev r_S64x2_S64x2_0_0 : Rect S64x2 := Rect.unit (s := S64x2) ![0, 0] S64x2.size inb_S64x2_S64x2_0_0

/-- The r_S64x8_S64x8_0_0 window a load or store addresses. -/
abbrev r_S64x8_S64x8_0_0 : Rect S64x8 := Rect.unit (s := S64x8) ![0, 0] S64x8.size inb_S64x8_S64x8_0_0

/-- The r_S96x32_S32x32_0_0 window a load or store addresses. -/
abbrev r_S96x32_S32x32_0_0 : Rect S96x32 := Rect.unit (s := S96x32) ![0, 0] S32x32.size inb_S96x32_S32x32_0_0

/-- The r_S96x32_S64x32_32_0 window a load or store addresses. -/
abbrev r_S96x32_S64x32_32_0 : Rect S96x32 := Rect.unit (s := S96x32) ![32, 0] S64x32.size inb_S96x32_S64x32_32_0

/-- The first three columns of layer 1's weights, scaled row by row. -/
def newW1p (X2 : Vec F S32x19 .f32) (X4 : Vec F S256x1 .f32) (X6 : Vec F S32x2 .f32) : Vec F S32x3 .f32 :=
  k0_pay3 (ld X4 r_S256x1_S32x1_0_0) (ld X6 r_S32x2_S32x1_0_0) (ld X6 r_S32x2_S32x1_0_1) (ld X2 r_S32x19_S32x3_0_0)

/-- The other sixteen columns, scaled row by row. -/
def newW1f (X2 : Vec F S32x19 .f32) (X4 : Vec F S256x1 .f32) (X6 : Vec F S32x2 .f32) : Vec F S32x16 .f32 :=
  k0_pay4 (ld X4 r_S256x1_S32x1_0_0) (ld X6 r_S32x2_S32x1_0_0) (ld X6 r_S32x2_S32x1_0_1) (ld X2 r_S32x19_S32x16_0_3)

/-- Layer 1's shift. -/
def newC1 (X4 : Vec F S256x1 .f32) (X6 : Vec F S32x2 .f32) : Vec F S32x1 .f32 :=
  k0_pay5 (ld X4 r_S256x1_S32x1_0_0) (ld X4 r_S256x1_S32x1_32_0) (ld X6 r_S32x2_S32x1_0_0) (ld X6 r_S32x2_S32x1_0_1)

/-- Layer 2's weights, scaled row by row. -/
def newW2 (X3 : Vec F S96x32 .f32) (X4 : Vec F S256x1 .f32) (X7 : Vec F S32x2 .f32) : Vec F S32x32 .f32 :=
  k0_pay8 (ld X4 r_S256x1_S32x1_64_0) (ld X7 r_S32x2_S32x1_0_0) (ld X7 r_S32x2_S32x1_0_1) (ld X3 r_S96x32_S32x32_0_0)

/-- Layer 2's shift. -/
def newC2 (X4 : Vec F S256x1 .f32) (X7 : Vec F S32x2 .f32) : Vec F S32x1 .f32 :=
  k0_pay9 (ld X4 r_S256x1_S32x1_64_0) (ld X4 r_S256x1_S32x1_96_0) (ld X7 r_S32x2_S32x1_0_0) (ld X7 r_S32x2_S32x1_0_1)

/-- Layer 1 on the first quarter of a block's columns. -/
def s1z0 (X0 : Vec F S1x3x100352 .f32) (X1 : Vec F S1x16x100352 .f32) (X2 : Vec F S32x19 .f32) : FVec F S32x25088 .f32 :=
  k0_pay15 (ld X2 r_S32x19_S32x3_0_0) (ld X0 r_S1x3x100352_S1x3x100352_0_0_0) (ld X2 r_S32x19_S32x16_0_3) (ld X1 r_S1x16x100352_S1x16x100352_0_0_0)

/-- Layer 1 on the second quarter. -/
def s1z1 (X0 : Vec F S1x3x100352 .f32) (X1 : Vec F S1x16x100352 .f32) (X2 : Vec F S32x19 .f32) : FVec F S32x25088 .f32 :=
  k0_pay16 (ld X2 r_S32x19_S32x3_0_0) (ld X0 r_S1x3x100352_S1x3x100352_0_0_0) (ld X2 r_S32x19_S32x16_0_3) (ld X1 r_S1x16x100352_S1x16x100352_0_0_0)

/-- The first three coordinates' part of layer 1 on the third quarter. -/
def s1z2a (X0 : Vec F S1x3x100352 .f32) (X2 : Vec F S32x19 .f32) : FVec F S32x25088 .f32 :=
  k0_pay17 (ld X2 r_S32x19_S32x3_0_0) (ld X0 r_S1x3x100352_S1x3x100352_0_0_0)

/-- Layer 1 on the third quarter. -/
def s1z2 (X0 : Vec F S1x3x100352 .f32) (X1 : Vec F S1x16x100352 .f32) (X2 : Vec F S32x19 .f32) : FVec F S32x25088 .f32 :=
  k0_pay18 (s1z2a X0 X2) (ld X2 r_S32x19_S32x16_0_3) (ld X1 r_S1x16x100352_S1x16x100352_0_0_0)

/-- Layer 1 on the last quarter, cut at the array's edge. -/
def s1z3 (X0 : Vec F S1x3x100352 .f32) (X1 : Vec F S1x16x100352 .f32) (X2 : Vec F S32x19 .f32) : FVec F S32x24736 .f32 :=
  k0_pay19 (ld X2 r_S32x19_S32x3_0_0) (ld X0 r_S1x3x100352_S1x3x100352_0_0_0) (ld X2 r_S32x19_S32x16_0_3) (ld X1 r_S1x16x100352_S1x16x100352_0_0_0)

/-- The row sums of layer 1 over the block. -/
def s1sum (X0 : Vec F S1x3x100352 .f32) (X1 : Vec F S1x16x100352 .f32) (X2 : Vec F S32x19 .f32) : FVec F S32x1 .f32 :=
  k0_pay20 (s1z0 X0 X1 X2) (s1z1 X0 X1 X2) (s1z2a X0 X2) (ld X2 r_S32x19_S32x16_0_3) (ld X1 r_S1x16x100352_S1x16x100352_0_0_0) (ld X2 r_S32x19_S32x3_0_0) (ld X0 r_S1x3x100352_S1x3x100352_0_0_0) (ld X2 r_S32x19_S32x16_0_3) (ld X1 r_S1x16x100352_S1x16x100352_0_0_0)

/-- The row sums of squares over the first quarter. -/
def s1sq0 (X0 : Vec F S1x3x100352 .f32) (X1 : Vec F S1x16x100352 .f32) (X2 : Vec F S32x19 .f32) : FVec F S32x1 .f32 :=
  k0_pay21 (s1z0 X0 X1 X2)

/-- The squares of the second quarter. -/
def s1z1sq (X0 : Vec F S1x3x100352 .f32) (X1 : Vec F S1x16x100352 .f32) (X2 : Vec F S32x19 .f32) : FVec F S32x25088 .f32 :=
  k0_pay22 (s1z1 X0 X1 X2)

/-- The first statistics buffer after a point of the first phase. -/
def step1 (i : grid0.Coords) (X0 : Vec F S1x3x100352 .f32) (X1 : Vec F S1x16x100352 .f32) (X2 : Vec F S32x19 .f32) (X6 : Vec F S32x2 .f32) : Vec F S32x2 .f32 :=
  k0_pay10 i (s1z2 X0 X1 X2) (s1z3 X0 X1 X2) (s1sum X0 X1 X2) (s1sq0 X0 X1 X2) (s1z1sq X0 X1 X2) (ld X6 r_S32x2_S32x2_0_0)

/-- Layer 2 on the first quarter. -/
def s2z0 (X0 : Vec F S1x3x100352 .f32) (X1 : Vec F S1x16x100352 .f32) (X3 : Vec F S96x32 .f32) (X11 : Vec F S32x3 .f32) (X12 : Vec F S32x16 .f32) (X13 : Vec F S32x1 .f32) : FVec F S32x25088 .f32 :=
  k0_pay23 (ld X3 r_S96x32_S32x32_0_0) X11 (ld X0 r_S1x3x100352_S1x3x100352_0_0_0) X12 (ld X1 r_S1x16x100352_S1x16x100352_0_0_0) X13

/-- The second layer's weights. -/
def s2w1 (X3 : Vec F S96x32 .f32) : FVec F S32x32 .f32 :=
  k0_pay24 (ld X3 r_S96x32_S32x32_0_0)

/-- The first three coordinates' part of the folded layer 1 on the second quarter. -/
def s2z1a (X0 : Vec F S1x3x100352 .f32) (X11 : Vec F S32x3 .f32) : FVec F S32x25088 .f32 :=
  k0_pay25 X11 (ld X0 r_S1x3x100352_S1x3x100352_0_0_0)

/-- The feature block. -/
def s2f1 (X1 : Vec F S1x16x100352 .f32) : FVec F S16x100352 .f32 :=
  k0_pay26 (ld X1 r_S1x16x100352_S1x16x100352_0_0_0)

/-- Layer 2 on the second quarter. -/
def s2z1 (X0 : Vec F S1x3x100352 .f32) (X1 : Vec F S1x16x100352 .f32) (X3 : Vec F S96x32 .f32) (X11 : Vec F S32x3 .f32) (X12 : Vec F S32x16 .f32) (X13 : Vec F S32x1 .f32) : FVec F S32x25088 .f32 :=
  k0_pay27 (s2w1 X3) (s2z1a X0 X11) X12 (s2f1 X1) X13

/-- Layer 2 on the third quarter. -/
def s2z2 (X0 : Vec F S1x3x100352 .f32) (X1 : Vec F S1x16x100352 .f32) (X3 : Vec F S96x32 .f32) (X11 : Vec F S32x3 .f32) (X12 : Vec F S32x16 .f32) (X13 : Vec F S32x1 .f32) : FVec F S32x25088 .f32 :=
  k0_pay28 (ld X3 r_S96x32_S32x32_0_0) X11 (ld X0 r_S1x3x100352_S1x3x100352_0_0_0) X12 (ld X1 r_S1x16x100352_S1x16x100352_0_0_0) X13

/-- The second layer's weights. -/
def s2w3 (X3 : Vec F S96x32 .f32) : FVec F S32x32 .f32 :=
  k0_pay29 (ld X3 r_S96x32_S32x32_0_0)

/-- Layer 2 on the last quarter, cut at the array's edge. -/
def s2z3 (X0 : Vec F S1x3x100352 .f32) (X1 : Vec F S1x16x100352 .f32) (X3 : Vec F S96x32 .f32) (X11 : Vec F S32x3 .f32) (X12 : Vec F S32x16 .f32) (X13 : Vec F S32x1 .f32) : FVec F S32x24736 .f32 :=
  k0_pay30 (s2w3 X3) X11 (ld X0 r_S1x3x100352_S1x3x100352_0_0_0) X12 (ld X1 r_S1x16x100352_S1x16x100352_0_0_0) X13

/-- The row sums of layer 2 over the block. -/
def s2sum (X0 : Vec F S1x3x100352 .f32) (X1 : Vec F S1x16x100352 .f32) (X3 : Vec F S96x32 .f32) (X11 : Vec F S32x3 .f32) (X12 : Vec F S32x16 .f32) (X13 : Vec F S32x1 .f32) : FVec F S32x1 .f32 :=
  k0_pay31 (s2z0 X0 X1 X3 X11 X12 X13) (s2z1 X0 X1 X3 X11 X12 X13) (s2z2 X0 X1 X3 X11 X12 X13) (s2w3 X3) X11 (ld X0 r_S1x3x100352_S1x3x100352_0_0_0) X12 (ld X1 r_S1x16x100352_S1x16x100352_0_0_0) X13

/-- The row sums of squares over the first two quarters. -/
def s2sq01 (X0 : Vec F S1x3x100352 .f32) (X1 : Vec F S1x16x100352 .f32) (X3 : Vec F S96x32 .f32) (X11 : Vec F S32x3 .f32) (X12 : Vec F S32x16 .f32) (X13 : Vec F S32x1 .f32) : FVec F S32x1 .f32 :=
  k0_pay32 (s2z0 X0 X1 X3 X11 X12 X13) (s2z1 X0 X1 X3 X11 X12 X13)

/-- The squares of the third quarter. -/
def s2z2sq (X0 : Vec F S1x3x100352 .f32) (X1 : Vec F S1x16x100352 .f32) (X3 : Vec F S96x32 .f32) (X11 : Vec F S32x3 .f32) (X12 : Vec F S32x16 .f32) (X13 : Vec F S32x1 .f32) : FVec F S32x25088 .f32 :=
  k0_pay33 (s2z2 X0 X1 X3 X11 X12 X13)

/-- The second statistics buffer after a point of the second phase. -/
def step2 (i : grid0.Coords) (X0 : Vec F S1x3x100352 .f32) (X1 : Vec F S1x16x100352 .f32) (X3 : Vec F S96x32 .f32) (X7 : Vec F S32x2 .f32) (X11 : Vec F S32x3 .f32) (X12 : Vec F S32x16 .f32) (X13 : Vec F S32x1 .f32) : Vec F S32x2 .f32 :=
  k0_pay11 i (s2z3 X0 X1 X3 X11 X12 X13) (s2sum X0 X1 X3 X11 X12 X13) (s2sq01 X0 X1 X3 X11 X12 X13) (s2z2sq X0 X1 X3 X11 X12 X13) (ld X7 r_S32x2_S32x2_0_0)

/-- Layer 3 on the first quarter. -/
def s3z0 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x25088 .f32 :=
  k0_pay34 X14 X11 (ld X0 r_S1x3x100352_S1x3x100352_0_0_0) X12 (ld X1 r_S1x16x100352_S1x16x100352_0_0_0) X13 X15 (ld X3 r_S96x32_S64x32_32_0)

/-- The row maxima of layer 3 over the first quarter. -/
def s3mx0 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay35 X14 X11 (ld X0 r_S1x3x100352_S1x3x100352_0_0_0) X12 (ld X1 r_S1x16x100352_S1x16x100352_0_0_0) X13 X15 (ld X3 r_S96x32_S64x32_32_0)

/-- The row minima of layer 3 over the first quarter. -/
def s3mn0 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay36 X14 X11 (ld X0 r_S1x3x100352_S1x3x100352_0_0_0) X12 (ld X1 r_S1x16x100352_S1x16x100352_0_0_0) X13 X15 (ld X3 r_S96x32_S64x32_32_0)

/-- Layer 3 on the second quarter. -/
def s3z1 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x25088 .f32 :=
  k0_pay37 X14 X11 (ld X0 r_S1x3x100352_S1x3x100352_0_0_0) X12 (ld X1 r_S1x16x100352_S1x16x100352_0_0_0) X13 X15 (ld X3 r_S96x32_S64x32_32_0)

/-- The row maxima of layer 3 over the second quarter. -/
def s3mx1 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay38 X14 X11 (ld X0 r_S1x3x100352_S1x3x100352_0_0_0) X12 (ld X1 r_S1x16x100352_S1x16x100352_0_0_0) X13 X15 (ld X3 r_S96x32_S64x32_32_0)

/-- The row minima of layer 3 over the second quarter. -/
def s3mn1 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay39 X14 X11 (ld X0 r_S1x3x100352_S1x3x100352_0_0_0) X12 (ld X1 r_S1x16x100352_S1x16x100352_0_0_0) X13 X15 (ld X3 r_S96x32_S64x32_32_0)

/-- Layer 3 on the third quarter. -/
def s3z2 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x25088 .f32 :=
  k0_pay40 X14 X11 (ld X0 r_S1x3x100352_S1x3x100352_0_0_0) X12 (ld X1 r_S1x16x100352_S1x16x100352_0_0_0) X13 X15 (ld X3 r_S96x32_S64x32_32_0)

/-- The row maxima of layer 3 over the third quarter. -/
def s3mx2 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay41 X14 X11 (ld X0 r_S1x3x100352_S1x3x100352_0_0_0) X12 (ld X1 r_S1x16x100352_S1x16x100352_0_0_0) X13 X15 (ld X3 r_S96x32_S64x32_32_0)

/-- The row minima of layer 3 over the third quarter. -/
def s3mn2 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay42 X14 X11 (ld X0 r_S1x3x100352_S1x3x100352_0_0_0) X12 (ld X1 r_S1x16x100352_S1x16x100352_0_0_0) X13 X15 (ld X3 r_S96x32_S64x32_32_0)

/-- The last quarter of the position block. -/
def s3p3 (X0 : Vec F S1x3x100352 .f32) : FVec F S3x25088 .f32 :=
  k0_pay43 (ld X0 r_S1x3x100352_S1x3x100352_0_0_0)

/-- Layer 3 on the last quarter. -/
def s3z3 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x24736 .f32 :=
  k0_pay44 X14 X11 (s3p3 X0) X12 (ld X1 r_S1x16x100352_S1x16x100352_0_0_0) X13 X15 (ld X3 r_S96x32_S64x32_32_0)

/-- The row maxima of layer 3 over the last quarter. -/
def s3mx3 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay45 X14 X11 (s3p3 X0) X12 (ld X1 r_S1x16x100352_S1x16x100352_0_0_0) X13 X15 (ld X3 r_S96x32_S64x32_32_0)

/-- The row minima of layer 3 over the last quarter. -/
def s3mn3 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay46 X14 X11 (s3p3 X0) X12 (ld X1 r_S1x16x100352_S1x16x100352_0_0_0) X13 X15 (ld X3 r_S96x32_S64x32_32_0)

/-- The row sums of layer 3 over the first three quarters. -/
def s3sum012 (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay47 (s3z0 X0 X1 X3 X11 X12 X13 X14 X15) (s3z1 X0 X1 X3 X11 X12 X13 X14 X15) (s3z2 X0 X1 X3 X11 X12 X13 X14 X15)

/-- The row maxima of layer 3 over the block. -/
def s3mx (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay49 (s3mx0 X0 X1 X3 X11 X12 X13 X14 X15) (s3mx1 X0 X1 X3 X11 X12 X13 X14 X15) (s3mx2 X0 X1 X3 X11 X12 X13 X14 X15) (s3mx3 X0 X1 X3 X11 X12 X13 X14 X15)

/-- The row minima of layer 3 over the block. -/
def s3mn (X0 : Vec F S1x3x100352 .f32) (X1 : Vec F S1x16x100352 .f32) (X3 : Vec F S96x32 .f32) (X11 : Vec F S32x3 .f32) (X12 : Vec F S32x16 .f32) (X13 : Vec F S32x1 .f32) (X14 : Vec F S32x32 .f32) (X15 : Vec F S32x1 .f32) : FVec F S64x1 .f32 :=
  k0_pay50 (s3mn0 X0 X1 X3 X11 X12 X13 X14 X15) (s3mn1 X0 X1 X3 X11 X12 X13 X14 X15) (s3mn2 X0 X1 X3 X11 X12 X13 X14 X15) (s3mn3 X0 X1 X3 X11 X12 X13 X14 X15)

/-- The third statistics buffer after a point of the third phase. -/
def step3 (i : grid0.Coords) (X0 : Vec F S1x3x100352 .f32) (X1 : Vec F S1x16x100352 .f32) (X3 : Vec F S96x32 .f32) (X8 : Vec F S64x2 .f32) (X11 : Vec F S32x3 .f32) (X12 : Vec F S32x16 .f32) (X13 : Vec F S32x1 .f32) (X14 : Vec F S32x32 .f32) (X15 : Vec F S32x1 .f32) : Vec F S64x2 .f32 :=
  k0_pay48 (Scalar.cmpi .eq (BitVec.ofNat 32 (i 1).val) 0#32) (s3z0 X0 X1 X3 X11 X12 X13 X14 X15) (s3z1 X0 X1 X3 X11 X12 X13 X14 X15) (s3z2 X0 X1 X3 X11 X12 X13 X14 X15) (s3z3 X0 X1 X3 X11 X12 X13 X14 X15) (s3sum012 X0 X1 X3 X11 X12 X13 X14 X15) (ld X8 r_S64x2_S64x2_0_0)

/-- The maxima buffer after a point of the third phase. -/
def stepMx (i : grid0.Coords) (X0 : Vec F S1x3x100352 .f32) (X1 : Vec F S1x16x100352 .f32) (X3 : Vec F S96x32 .f32) (X9 : Vec F S64x8 .f32) (X11 : Vec F S32x3 .f32) (X12 : Vec F S32x16 .f32) (X13 : Vec F S32x1 .f32) (X14 : Vec F S32x32 .f32) (X15 : Vec F S32x1 .f32) : Vec F S64x8 .f32 :=
  k0_pay12 (s3mx X0 X1 X3 X11 X12 X13 X14 X15) (k0_pay52 (Scalar.cmpi .eq (BitVec.ofNat 32 (i 1).val) 0#32) (ld X9 r_S64x8_S64x8_0_0)) (Scalar.ofBits .f32 0xFF800000#32) (k0_pay54 (BitVec.ofNat 32 (i 1).val))

/-- The minima buffer after a point of the third phase. -/
def stepMn (i : grid0.Coords) (X0 : Vec F S1x3x100352 .f32) (X1 : Vec F S1x16x100352 .f32) (X3 : Vec F S96x32 .f32) (X10 : Vec F S64x8 .f32) (X11 : Vec F S32x3 .f32) (X12 : Vec F S32x16 .f32) (X13 : Vec F S32x1 .f32) (X14 : Vec F S32x32 .f32) (X15 : Vec F S32x1 .f32) : Vec F S64x8 .f32 :=
  k0_pay13 (s3mn X0 X1 X3 X11 X12 X13 X14 X15) (k0_pay51 (BitVec.ofNat 32 (i 1).val)) (k0_pay53 (Scalar.cmpi .eq (BitVec.ofNat 32 (i 1).val) 0#32) (ld X10 r_S64x8_S64x8_0_0))

/-- The output at the last point. -/
def outNew (X4 : Vec F S256x1 .f32) (X8 : Vec F S64x2 .f32) (X9 : Vec F S64x8 .f32) (X10 : Vec F S64x8 .f32) : Vec F S64x8 .f32 :=
  k0_pay14 (ld X4 r_S256x1_S64x1_128_0) (ld X4 r_S256x1_S64x1_192_0) (ld X8 r_S64x2_S64x1_0_0) (ld X8 r_S64x2_S64x1_0_1) (ld X9 r_S64x8_S64x8_0_0) (ld X10 r_S64x8_S64x8_0_0)

end Cert.KernelIdeal.Hand

end
-- ==== Proof.Body.lean ====
/-
  The body of the idealized kernel at symbolic operands, one theorem per course its branches take: from the sixteen buffers
  owned at given contents it runs to its return owning them at the contents Steps.lean names.
-/
module

public import proofs.«01_k».proof.Proof.Gen.KernelIdeal.Skeleton
public import proofs.«01_k».proof.Proof.Gen.KernelIdeal.Launch
public import proofs.«01_k».proof.Proof.Steps
public import Idealize.ShloMosaic.Lib.Tactic
public import Idealize.ShloMosaic.Lib.VecWindow
public import Idealize.ShloMosaic.Lib.Pipeline.FrameBody
public import Idealize.ShloMosaic.Lib.Pipeline.FrameBody

@[expose] public section

set_option maxRecDepth 16384

noncomputable section

namespace Cert.KernelIdeal.Hand

open Cert.KernelIdeal.Gen Idealize.ShloMosaic.View

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

/-- A load after one store of a whole buffer reads the stored value at the load's indices. -/
theorem readCov_store {Val : EltTy → Type} [∀ e, Nonempty (Val e)] {κ : Kind} {sp : Space} {s : Shape} {e : EltTy} (v : View sig κ sp s e)
    {off : Fin s.rank → ℕ} (inb : ∀ a, off a + s.size a ≤ s.size a) (w : (Rect.unit off s.size inb).shape.Idx → Val e)
    (L : List (View.Piece Val s e)) (r : Rect s) :
    v.readCov (⟨Rect.unit off s.size inb, w⟩ :: L) r.toLoadRect = ld (S := s) w r :=
  funext fun x => congrFun (View.read_writes_full v v.junk inb w L) (r.idx x)

set_option maxHeartbeats 4000000 in
/-- The body at a point of the first phase. -/
theorem run_first (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (c2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (c3 : Scalar.cmpi .ne (Scalar.extui (Scalar.cmpi .eq (BitVec.ofNat 32 (i 0).val) 0#32) : BitVec 32) 0#32 = 1#1)
    (c4 : ¬ (Scalar.cmpi .ne (Scalar.extui (Scalar.cmpi .eq (BitVec.ofNat 32 (i 0).val) 1#32) : BitVec 32) 0#32 = 1#1))
    (c5 : ¬ (k0_cond5 i = 1#1))
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare (step1 i X0 X1 X2 X6) ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; refine (View.read_writes_full _ _ _ _ _).trans ?_; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  iexists _; isplitr; swap; · iexact H15
  ipureintro; rfl

set_option maxHeartbeats 4000000 in
/-- The body at the second phase's first point. -/
theorem run_secondStart (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : Scalar.cmpi .ne (Scalar.extui (Scalar.andi (Scalar.cmpi .eq (BitVec.ofNat 32 (i 0).val) 1#32) (Scalar.cmpi .eq (BitVec.ofNat 32 (i 1).val) 0#32)) : BitVec 32) 0#32 = 1#1)
    (c2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (c3 : ¬ (Scalar.cmpi .ne (Scalar.extui (Scalar.cmpi .eq (BitVec.ofNat 32 (i 0).val) 0#32) : BitVec 32) 0#32 = 1#1))
    (c4 : Scalar.cmpi .ne (Scalar.extui (Scalar.cmpi .eq (BitVec.ofNat 32 (i 0).val) 1#32) : BitVec 32) 0#32 = 1#1)
    (c5 : ¬ (k0_cond5 i = 1#1))
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare (step2 i X0 X1 X3 X7 (ld (newW1p X2 X4 X6) r_S32x3_S32x3_0_0) (ld (newW1f X2 X4 X6) r_S32x16_S32x16_0_0) (ld (newC1 X4 X6) r_S32x1_S32x1_0_0))
        ∗ owns (c : Thread nD τ) M8 fullShare X8 ∗ owns (c : Thread nD τ) M9 fullShare X9 ∗ owns (c : Thread nD τ) M10 fullShare X10 ∗ owns (c : Thread nD τ) M11 fullShare (newW1p X2 X4 X6)
        ∗ owns (c : Thread nD τ) M12 fullShare (newW1f X2 X4 X6) ∗ owns (c : Thread nD τ) M13 fullShare (newC1 X4 X6) ∗ owns (c : Thread nD τ) M14 fullShare X14 ∗ owns (c : Thread nD τ) M15 fullShare X15) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; refine (View.read_writes_full _ _ _ _ _).trans (Eq.trans (b := step2 i (View.read (Elt F) M0.view f0) (View.read (Elt F) M1.view f1) (View.read (Elt F) M3.view f3) (View.read (Elt F) M7.view f7) (M11.view.readCov (run_secondStart.sl.H11_1 c M2 M4 M6 f2 f4 f6) r_S32x3_S32x3_0_0.toLoadRect) (M12.view.readCov (run_secondStart.sl.H12_1 c M2 M4 M6 f2 f4 f6) r_S32x16_S32x16_0_0.toLoadRect) (M13.view.readCov (run_secondStart.sl.H13_1 c M4 M6 f4 f6) r_S32x1_S32x1_0_0.toLoadRect)) rfl ?_); exact congr (congr (congrArg (step2 i _ _ _ _) (readCov_store _ _ _ _ _)) (readCov_store _ _ _ _ _)) (readCov_store _ _ _ _ _)
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; refine (View.read_writes_full _ _ _ _ _).trans ?_; rfl
  isplitl [H12]
  · iexists _; isplitr; swap; · iexact H12
    ipureintro; refine (View.read_writes_full _ _ _ _ _).trans ?_; rfl
  isplitl [H13]
  · iexists _; isplitr; swap; · iexact H13
    ipureintro; refine (View.read_writes_full _ _ _ _ _).trans ?_; rfl
  isplitl [H14]
  · iexists _; isplitr; swap; · iexact H14
    ipureintro; rfl
  iexists _; isplitr; swap; · iexact H15
  ipureintro; rfl

set_option maxHeartbeats 4000000 in
/-- The body at a later point of the second phase. -/
theorem run_second (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (c2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (c3 : ¬ (Scalar.cmpi .ne (Scalar.extui (Scalar.cmpi .eq (BitVec.ofNat 32 (i 0).val) 0#32) : BitVec 32) 0#32 = 1#1))
    (c4 : Scalar.cmpi .ne (Scalar.extui (Scalar.cmpi .eq (BitVec.ofNat 32 (i 0).val) 1#32) : BitVec 32) 0#32 = 1#1)
    (c5 : ¬ (k0_cond5 i = 1#1))
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare (step2 i X0 X1 X3 X7 (ld X11 r_S32x3_S32x3_0_0) (ld X12 r_S32x16_S32x16_0_0) (ld X13 r_S32x1_S32x1_0_0))
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; refine (View.read_writes_full _ _ _ _ _).trans ?_; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  iexists _; isplitr; swap; · iexact H15
  ipureintro; rfl

set_option maxHeartbeats 4000000 in
/-- The body at the third phase's first point. -/
theorem run_thirdStart (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (c2 : Scalar.cmpi .ne (Scalar.extui (Scalar.andi (Scalar.cmpi .eq (BitVec.ofNat 32 (i 0).val) 2#32) (Scalar.cmpi .eq (BitVec.ofNat 32 (i 1).val) 0#32)) : BitVec 32) 0#32 = 1#1)
    (c3 : ¬ (Scalar.cmpi .ne (Scalar.extui (Scalar.cmpi .eq (BitVec.ofNat 32 (i 0).val) 0#32) : BitVec 32) 0#32 = 1#1))
    (c4 : ¬ (Scalar.cmpi .ne (Scalar.extui (Scalar.cmpi .eq (BitVec.ofNat 32 (i 0).val) 1#32) : BitVec 32) 0#32 = 1#1))
    (c5 : k0_cond5 i = 1#1)
    (c6 : ¬ (k0_cond6 i = 1#1))
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare (step3 i X0 X1 X3 X8 (ld X11 r_S32x3_S32x3_0_0) (ld X12 r_S32x16_S32x16_0_0) (ld X13 r_S32x1_S32x1_0_0) (ld (newW2 X3 X4 X7) r_S32x32_S32x32_0_0) (ld (newC2 X4 X7) r_S32x1_S32x1_0_0)) ∗ owns (c : Thread nD τ) M9 fullShare (stepMx i X0 X1 X3 X9 (ld X11 r_S32x3_S32x3_0_0) (ld X12 r_S32x16_S32x16_0_0) (ld X13 r_S32x1_S32x1_0_0) (ld (newW2 X3 X4 X7) r_S32x32_S32x32_0_0) (ld (newC2 X4 X7) r_S32x1_S32x1_0_0)) ∗ owns (c : Thread nD τ) M10 fullShare (stepMn i X0 X1 X3 X10 (ld X11 r_S32x3_S32x3_0_0) (ld X12 r_S32x16_S32x16_0_0) (ld X13 r_S32x1_S32x1_0_0) (ld (newW2 X3 X4 X7) r_S32x32_S32x32_0_0) (ld (newC2 X4 X7) r_S32x1_S32x1_0_0)) ∗ owns (c : Thread nD τ) M11 fullShare X11
        ∗ owns (c : Thread nD τ) M12 fullShare X12 ∗ owns (c : Thread nD τ) M13 fullShare X13 ∗ owns (c : Thread nD τ) M14 fullShare (newW2 X3 X4 X7) ∗ owns (c : Thread nD τ) M15 fullShare (newC2 X4 X7)) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; refine (View.read_writes_full _ _ _ _ _).trans (Eq.trans (b := step3 i (View.read (Elt F) M0.view f0) (View.read (Elt F) M1.view f1) (View.read (Elt F) M3.view f3) (View.read (Elt F) M8.view f8) (ld (View.read (Elt F) M11.view f11) r_S32x3_S32x3_0_0) (ld (View.read (Elt F) M12.view f12) r_S32x16_S32x16_0_0) (ld (View.read (Elt F) M13.view f13) r_S32x1_S32x1_0_0) (M14.view.readCov (run_thirdStart.sl.H14_1 c M3 M4 M7 f3 f4 f7) r_S32x32_S32x32_0_0.toLoadRect) (M15.view.readCov (run_thirdStart.sl.H15_1 c M4 M7 f4 f7) r_S32x1_S32x1_0_0.toLoadRect)) rfl ?_); exact congr (congrArg (step3 i _ _ _ _ _ _ _) (readCov_store _ _ _ _ _)) (readCov_store _ _ _ _ _)
  isplitl [H9]
  · iexists _; isplitr; swap; · iexact H9
    ipureintro; refine (View.read_writes_full _ _ _ _ _).trans (Eq.trans (b := stepMx i (View.read (Elt F) M0.view f0) (View.read (Elt F) M1.view f1) (View.read (Elt F) M3.view f3) (View.read (Elt F) M9.view f9) (ld (View.read (Elt F) M11.view f11) r_S32x3_S32x3_0_0) (ld (View.read (Elt F) M12.view f12) r_S32x16_S32x16_0_0) (ld (View.read (Elt F) M13.view f13) r_S32x1_S32x1_0_0) (M14.view.readCov (run_thirdStart.sl.H14_1 c M3 M4 M7 f3 f4 f7) r_S32x32_S32x32_0_0.toLoadRect) (M15.view.readCov (run_thirdStart.sl.H15_1 c M4 M7 f4 f7) r_S32x1_S32x1_0_0.toLoadRect)) rfl ?_); exact congr (congrArg (stepMx i _ _ _ _ _ _ _) (readCov_store _ _ _ _ _)) (readCov_store _ _ _ _ _)
  isplitl [H10]
  · iexists _; isplitr; swap; · iexact H10
    ipureintro; refine (View.read_writes_full _ _ _ _ _).trans (Eq.trans (b := stepMn i (View.read (Elt F) M0.view f0) (View.read (Elt F) M1.view f1) (View.read (Elt F) M3.view f3) (View.read (Elt F) M10.view f10) (ld (View.read (Elt F) M11.view f11) r_S32x3_S32x3_0_0) (ld (View.read (Elt F) M12.view f12) r_S32x16_S32x16_0_0) (ld (View.read (Elt F) M13.view f13) r_S32x1_S32x1_0_0) (M14.view.readCov (run_thirdStart.sl.H14_1 c M3 M4 M7 f3 f4 f7) r_S32x32_S32x32_0_0.toLoadRect) (M15.view.readCov (run_thirdStart.sl.H15_1 c M4 M7 f4 f7) r_S32x1_S32x1_0_0.toLoadRect)) rfl ?_); exact congr (congrArg (stepMn i _ _ _ _ _ _ _) (readCov_store _ _ _ _ _)) (readCov_store _ _ _ _ _)
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; refine (View.read_writes_full _ _ _ _ _).trans ?_; rfl
  iexists _; isplitr; swap; · iexact H15
  ipureintro; refine (View.read_writes_full _ _ _ _ _).trans ?_; rfl

set_option maxHeartbeats 4000000 in
/-- The body at a middle point of the third phase. -/
theorem run_third (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (c2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (c3 : ¬ (Scalar.cmpi .ne (Scalar.extui (Scalar.cmpi .eq (BitVec.ofNat 32 (i 0).val) 0#32) : BitVec 32) 0#32 = 1#1))
    (c4 : ¬ (Scalar.cmpi .ne (Scalar.extui (Scalar.cmpi .eq (BitVec.ofNat 32 (i 0).val) 1#32) : BitVec 32) 0#32 = 1#1))
    (c5 : k0_cond5 i = 1#1)
    (c6 : ¬ (k0_cond6 i = 1#1))
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare (step3 i X0 X1 X3 X8 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M9 fullShare (stepMx i X0 X1 X3 X9 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M10 fullShare (stepMn i X0 X1 X3 X10 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; refine (View.read_writes_full _ _ _ _ _).trans ?_; rfl
  isplitl [H9]
  · iexists _; isplitr; swap; · iexact H9
    ipureintro; refine (View.read_writes_full _ _ _ _ _).trans ?_; rfl
  isplitl [H10]
  · iexists _; isplitr; swap; · iexact H10
    ipureintro; refine (View.read_writes_full _ _ _ _ _).trans ?_; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  iexists _; isplitr; swap; · iexact H15
  ipureintro; rfl

set_option maxHeartbeats 4000000 in
/-- The body at the last point. -/
theorem run_thirdEnd (c : Dev nD) (i : grid0.Coords)
    (M0 : Memref sig .tc .vmem S1x3x100352 .f32) (h0 : M0.IsWhole)
    (M1 : Memref sig .tc .vmem S1x16x100352 .f32) (h1 : M1.IsWhole)
    (M2 : Memref sig .tc .vmem S32x19 .f32) (h2 : M2.IsWhole)
    (M3 : Memref sig .tc .vmem S96x32 .f32) (h3 : M3.IsWhole)
    (M4 : Memref sig .tc .vmem S256x1 .f32) (h4 : M4.IsWhole)
    (M5 : Memref sig .tc .vmem S64x8 .f32) (h5 : M5.IsWhole)
    (M6 : Memref sig .tc .vmem S32x2 .f32) (h6 : M6.IsWhole)
    (M7 : Memref sig .tc .vmem S32x2 .f32) (h7 : M7.IsWhole)
    (M8 : Memref sig .tc .vmem S64x2 .f32) (h8 : M8.IsWhole)
    (M9 : Memref sig .tc .vmem S64x8 .f32) (h9 : M9.IsWhole)
    (M10 : Memref sig .tc .vmem S64x8 .f32) (h10 : M10.IsWhole)
    (M11 : Memref sig .tc .vmem S32x3 .f32) (h11 : M11.IsWhole)
    (M12 : Memref sig .tc .vmem S32x16 .f32) (h12 : M12.IsWhole)
    (M13 : Memref sig .tc .vmem S32x1 .f32) (h13 : M13.IsWhole)
    (M14 : Memref sig .tc .vmem S32x32 .f32) (h14 : M14.IsWhole)
    (M15 : Memref sig .tc .vmem S32x1 .f32) (h15 : M15.IsWhole)
    (X0 : Vec F S1x3x100352 .f32) (X1 : Vec F S1x16x100352 .f32) (X2 : Vec F S32x19 .f32) (X3 : Vec F S96x32 .f32) (X4 : Vec F S256x1 .f32) (X5 : Vec F S64x8 .f32) (X6 : Vec F S32x2 .f32) (X7 : Vec F S32x2 .f32) (X8 : Vec F S64x2 .f32) (X9 : Vec F S64x8 .f32) (X10 : Vec F S64x8 .f32) (X11 : Vec F S32x3 .f32) (X12 : Vec F S32x16 .f32) (X13 : Vec F S32x1 .f32) (X14 : Vec F S32x32 .f32) (X15 : Vec F S32x1 .f32)
    (c1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (c2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (c3 : ¬ (Scalar.cmpi .ne (Scalar.extui (Scalar.cmpi .eq (BitVec.ofNat 32 (i 0).val) 0#32) : BitVec 32) 0#32 = 1#1))
    (c4 : ¬ (Scalar.cmpi .ne (Scalar.extui (Scalar.cmpi .eq (BitVec.ofNat 32 (i 0).val) 1#32) : BitVec 32) 0#32 = 1#1))
    (c5 : k0_cond5 i = 1#1)
    (c6 : k0_cond6 i = 1#1)
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10 ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15
        ∗ (iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare (outNew X4 (step3 i X0 X1 X3 X8 (ld X11 r_S32x3_S32x3_0_0) (ld X12 r_S32x16_S32x16_0_0) (ld X13 r_S32x1_S32x1_0_0) (ld X14 r_S32x32_S32x32_0_0) (ld X15 r_S32x1_S32x1_0_0)) (stepMx i X0 X1 X3 X9 (ld X11 r_S32x3_S32x3_0_0) (ld X12 r_S32x16_S32x16_0_0) (ld X13 r_S32x1_S32x1_0_0) (ld X14 r_S32x32_S32x32_0_0) (ld X15 r_S32x1_S32x1_0_0)) (stepMn i X0 X1 X3 X10 (ld X11 r_S32x3_S32x3_0_0) (ld X12 r_S32x16_S32x16_0_0) (ld X13 r_S32x1_S32x1_0_0) (ld X14 r_S32x32_S32x32_0_0) (ld X15 r_S32x1_S32x1_0_0))) ∗ owns (c : Thread nD τ) M6 fullShare X6 ∗ owns (c : Thread nD τ) M7 fullShare X7
        ∗ owns (c : Thread nD τ) M8 fullShare (step3 i X0 X1 X3 X8 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M9 fullShare (stepMx i X0 X1 X3 X9 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M10 fullShare (stepMn i X0 X1 X3 X10 (ld X11 r_S32x3_S32x3_0_0) (ld X12 r_S32x16_S32x16_0_0) (ld X13 r_S32x1_S32x1_0_0) (ld X14 r_S32x32_S32x32_0_0) (ld X15 r_S32x1_S32x1_0_0)) ∗ owns (c : Thread nD τ) M11 fullShare X11
        ∗ owns (c : Thread nD τ) M12 fullShare X12 ∗ owns (c : Thread nD τ) M13 fullShare X13 ∗ owns (c : Thread nD τ) M14 fullShare X14 ∗ owns (c : Thread nD τ) M15 fullShare X15) -∗ K ⟨⟩))
      ⊢ wp frame (wpE (defs₀ (F := F)) Variants.none c none) Set.univ
          (cc0__mlp_bn_max_kernel i M0 h0 M1 h1 M2 h2 M3 h3 M4 h4 M5 h5 M6 h6 M7 h7 M8 h8 M9 h9 M10 h10 M11 h11 M12 h12 M13 h13 M14 h14 M15 h15) K := by
  simp only [cc0__mlp_bn_max_kernel_eq_skeleton]; unfold cc0__mlp_bn_max_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e0 e1 e2 e3 e4 e5 e6 e7 e8 e9 e10 e11 e12 e13 e14 e15
  sl_exec_parts
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; refine (View.read_writes_full _ _ _ _ _).trans ?_; delta run_thirdEnd.sl.v218 run_thirdEnd.sl.v221 run_thirdEnd.sl.v234 run_thirdEnd.sl.v235 run_thirdEnd.sl.H8_1 run_thirdEnd.sl.H9_1 run_thirdEnd.sl.H10_1; unfold outNew; exact congr (congr (congr (congrArg (k0_pay14 _ _) (readCov_store _ _ _ _ _)) (readCov_store _ _ _ _ _)) (readCov_store _ _ _ _ _)) (readCov_store _ _ _ _ _)
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; refine (View.read_writes_full _ _ _ _ _).trans ?_; rfl
  isplitl [H9]
  · iexists _; isplitr; swap; · iexact H9
    ipureintro; refine (View.read_writes_full _ _ _ _ _).trans ?_; rfl
  isplitl [H10]
  · iexists _; isplitr; swap; · iexact H10
    ipureintro; refine (View.read_writes_full _ _ _ _ _).trans ?_; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  iexists _; isplitr; swap; · iexact H15
  ipureintro; rfl

end Cert.KernelIdeal.Hand

end
-- ==== Proof.Layers.lean ====
/-
  The kernel's arithmetic of one layer read at an index: the linear parts, their sums over the points, and the folded weights and shifts,
  as plain sums over the operands.
-/
module

public import proofs.«01_k».proof.Proof.Steps
public import Idealize.ShloMosaic.Lib.Pointwise

@[expose] public section

set_option maxRecDepth 16384

/-!
  What the vectors of one block hold, entry by entry, at the ideal instance: the three layers of one column of a block,
  and each quarter-block vector as those layers at the quarter's columns.
-/

noncomputable section

namespace Cert.KernelIdeal.Hand

open Cert.KernelIdeal.Gen Idealize.ShloMosaic.View
open Idealize.ShloMosaic

/-- Layer 1's linear part, at column `n` of a block. -/
def y1 (X0 : Vec Ideal S1x3x100352 .f32) (X1 : Vec Ideal S1x16x100352 .f32) (X2 : Vec Ideal S32x19 .f32)
    (o : Fin 32) (n : Fin 100352) : EReal :=
  ∑ k : Fin 3, X2 (ix2 o ⟨k.val, by omega⟩) * X0 (ix3 0 k n) + ∑ k : Fin 16, X2 (ix2 o ⟨3 + k.val, by omega⟩) * X1 (ix3 0 k n)

/-- Layer 1 with the scale folded into its weights, shifted and cut at zero. -/
def y1f (X0 : Vec Ideal S1x3x100352 .f32) (X1 : Vec Ideal S1x16x100352 .f32) (X11 : Vec Ideal S32x3 .f32)
    (X12 : Vec Ideal S32x16 .f32) (X13 : Vec Ideal S32x1 .f32) (o : Fin 32) (n : Fin 100352) : EReal :=
  max (∑ k : Fin 3, X11 (ix2 o k) * X0 (ix3 0 k n) + ∑ k : Fin 16, X12 (ix2 o k) * X1 (ix3 0 k n) + X13 (ix2 o 0)) 0

/-- Layer 2's linear part. -/
def y2 (X0 : Vec Ideal S1x3x100352 .f32) (X1 : Vec Ideal S1x16x100352 .f32) (X3 : Vec Ideal S96x32 .f32)
    (X11 : Vec Ideal S32x3 .f32) (X12 : Vec Ideal S32x16 .f32) (X13 : Vec Ideal S32x1 .f32) (o : Fin 32)
    (n : Fin 100352) : EReal :=
  ∑ x : Fin 32, X3 (ix2 ⟨o.val, by omega⟩ x) * y1f X0 X1 X11 X12 X13 x n

/-- Layer 2 with the scale folded into its weights, shifted and cut at zero. -/
def y2f (X0 : Vec Ideal S1x3x100352 .f32) (X1 : Vec Ideal S1x16x100352 .f32)
    (X11 : Vec Ideal S32x3 .f32) (X12 : Vec Ideal S32x16 .f32) (X13 : Vec Ideal S32x1 .f32)
    (X14 : Vec Ideal S32x32 .f32) (X15 : Vec Ideal S32x1 .f32) (o : Fin 32) (n : Fin 100352) : EReal :=
  max (∑ x : Fin 32, X14 (ix2 o x) * y1f X0 X1 X11 X12 X13 x n + X15 (ix2 o 0)) 0

/-- Layer 3's linear part. -/
def y3 (X0 : Vec Ideal S1x3x100352 .f32) (X1 : Vec Ideal S1x16x100352 .f32) (X3 : Vec Ideal S96x32 .f32)
    (X11 : Vec Ideal S32x3 .f32) (X12 : Vec Ideal S32x16 .f32) (X13 : Vec Ideal S32x1 .f32)
    (X14 : Vec Ideal S32x32 .f32) (X15 : Vec Ideal S32x1 .f32) (o : Fin 64) (n : Fin 100352) : EReal :=
  ∑ x : Fin 32, X3 (ix2 ⟨32 + o.val, by omega⟩ x) * y2f X0 X1 X11 X12 X13 X14 X15 x n

/-- The reductions start from minus infinity … -/
theorem ofBits_negInf : Ideal.ofBits .f32 4286578688#32 = ⊥ := by simp [Ideal.ofBits, Ideal.ieee]

/-- … and from plus infinity. -/
theorem ofBits_posInf : Ideal.ofBits .f32 2139095040#32 = ⊤ := by simp [Ideal.ofBits, Ideal.ieee]

variable (X0 : Vec Ideal S1x3x100352 .f32) (X1 : Vec Ideal S1x16x100352 .f32) (X2 : Vec Ideal S32x19 .f32)
  (X3 : Vec Ideal S96x32 .f32) (X11 : Vec Ideal S32x3 .f32) (X12 : Vec Ideal S32x16 .f32) (X13 : Vec Ideal S32x1 .f32)
  (X14 : Vec Ideal S32x32 .f32) (X15 : Vec Ideal S32x1 .f32)

/-- Layer 1 on the first quarter, entry by entry. -/
theorem s1z0_at (o : Fin 32) (j : Fin 25088) :
    s1z0 X0 X1 X2 (ix2 o j) = y1 X0 X1 X2 o ⟨j.val, by omega⟩ := by
  unfold s1z0 y1
  pointwise [k0_pay15]

/-- Layer 1 on the second quarter, entry by entry. -/
theorem s1z1_at (o : Fin 32) (j : Fin 25088) :
    s1z1 X0 X1 X2 (ix2 o j) = y1 X0 X1 X2 o ⟨25088 + j.val, by omega⟩ := by
  unfold s1z1 y1
  pointwise [k0_pay16]

/-- Layer 1 on the third quarter, entry by entry. -/
theorem s1z2_at (o : Fin 32) (j : Fin 25088) :
    s1z2 X0 X1 X2 (ix2 o j) = y1 X0 X1 X2 o ⟨50176 + j.val, by omega⟩ := by
  unfold s1z2 s1z2a y1
  pointwise [k0_pay18, k0_pay17]

/-- Layer 1 on the last quarter, entry by entry. -/
theorem s1z3_at (o : Fin 32) (j : Fin 24736) :
    s1z3 X0 X1 X2 (ix2 o j) = y1 X0 X1 X2 o ⟨75264 + j.val, by omega⟩ := by
  unfold s1z3 y1
  pointwise [k0_pay19]

/-- Layer 2 on the first quarter, entry by entry. -/
theorem s2z0_at (o : Fin 32) (j : Fin 25088) :
    s2z0 X0 X1 X3 X11 X12 X13 (ix2 o j) = y2 X0 X1 X3 X11 X12 X13 o ⟨j.val, by omega⟩ := by
  unfold s2z0 y2 y1f
  pointwise [k0_pay23]

/-- Layer 2 on the second quarter, entry by entry. -/
theorem s2z1_at (o : Fin 32) (j : Fin 25088) :
    s2z1 X0 X1 X3 X11 X12 X13 (ix2 o j) = y2 X0 X1 X3 X11 X12 X13 o ⟨25088 + j.val, by omega⟩ := by
  unfold s2z1 s2w1 s2z1a s2f1 y2 y1f
  pointwise [k0_pay27, k0_pay24, k0_pay25, k0_pay26]

/-- Layer 2 on the third quarter, entry by entry. -/
theorem s2z2_at (o : Fin 32) (j : Fin 25088) :
    s2z2 X0 X1 X3 X11 X12 X13 (ix2 o j) = y2 X0 X1 X3 X11 X12 X13 o ⟨50176 + j.val, by omega⟩ := by
  unfold s2z2 y2 y1f
  pointwise [k0_pay28]

/-- Layer 2 on the last quarter, entry by entry. -/
theorem s2z3_at (o : Fin 32) (j : Fin 24736) :
    s2z3 X0 X1 X3 X11 X12 X13 (ix2 o j) = y2 X0 X1 X3 X11 X12 X13 o ⟨75264 + j.val, by omega⟩ := by
  unfold s2z3 s2w3 y2 y1f
  pointwise [k0_pay30, k0_pay29]

/-- Layer 3 on the first quarter, entry by entry. -/
theorem s3z0_at (o : Fin 64) (j : Fin 25088) :
    s3z0 X0 X1 X3 X11 X12 X13 X14 X15 (ix2 o j) = y3 X0 X1 X3 X11 X12 X13 X14 X15 o ⟨j.val, by omega⟩ := by
  unfold s3z0 y3 y2f y1f
  pointwise [k0_pay34]

/-- Layer 3 on the second quarter, entry by entry. -/
theorem s3z1_at (o : Fin 64) (j : Fin 25088) :
    s3z1 X0 X1 X3 X11 X12 X13 X14 X15 (ix2 o j) = y3 X0 X1 X3 X11 X12 X13 X14 X15 o ⟨25088 + j.val, by omega⟩ := by
  unfold s3z1 y3 y2f y1f
  pointwise [k0_pay37]

/-- Layer 3 on the third quarter, entry by entry. -/
theorem s3z2_at (o : Fin 64) (j : Fin 25088) :
    s3z2 X0 X1 X3 X11 X12 X13 X14 X15 (ix2 o j) = y3 X0 X1 X3 X11 X12 X13 X14 X15 o ⟨50176 + j.val, by omega⟩ := by
  unfold s3z2 y3 y2f y1f
  pointwise [k0_pay40]

/-- Layer 3 on the last quarter, entry by entry. -/
theorem s3z3_at (o : Fin 64) (j : Fin 24736) :
    s3z3 X0 X1 X3 X11 X12 X13 X14 X15 (ix2 o j) = y3 X0 X1 X3 X11 X12 X13 X14 X15 o ⟨75264 + j.val, by omega⟩ := by
  unfold s3z3 s3p3 y3 y2f y1f
  pointwise [k0_pay44, k0_pay43]

/-- The row maxima over the first quarter. -/
theorem s3mx0_at (o : Fin 64) :
    s3mx0 X0 X1 X3 X11 X12 X13 X14 X15 (ix2 o 0) =
      Finset.univ.fold max ⊥ (fun j : Fin 25088 => y3 X0 X1 X3 X11 X12 X13 X14 X15 o ⟨j.val, by omega⟩) := by
  unfold s3mx0 y3 y2f y1f
  pointwise [k0_pay35, k0_pay34, ofBits_negInf, ofBits_posInf]

/-- The row minima over the first quarter. -/
theorem s3mn0_at (o : Fin 64) :
    s3mn0 X0 X1 X3 X11 X12 X13 X14 X15 (ix2 o 0) =
      Finset.univ.fold min ⊤ (fun j : Fin 25088 => y3 X0 X1 X3 X11 X12 X13 X14 X15 o ⟨j.val, by omega⟩) := by
  unfold s3mn0 y3 y2f y1f
  pointwise [k0_pay36, k0_pay34, ofBits_negInf, ofBits_posInf]

/-- The row maxima over the second quarter. -/
theorem s3mx1_at (o : Fin 64) :
    s3mx1 X0 X1 X3 X11 X12 X13 X14 X15 (ix2 o 0) =
      Finset.univ.fold max ⊥ (fun j : Fin 25088 => y3 X0 X1 X3 X11 X12 X13 X14 X15 o ⟨25088 + j.val, by omega⟩) := by
  unfold s3mx1 y3 y2f y1f
  pointwise [k0_pay38, k0_pay37, ofBits_negInf, ofBits_posInf]

/-- The row minima over the second quarter. -/
theorem s3mn1_at (o : Fin 64) :
    s3mn1 X0 X1 X3 X11 X12 X13 X14 X15 (ix2 o 0) =
      Finset.univ.fold min ⊤ (fun j : Fin 25088 => y3 X0 X1 X3 X11 X12 X13 X14 X15 o ⟨25088 + j.val, by omega⟩) := by
  unfold s3mn1 y3 y2f y1f
  pointwise [k0_pay39, k0_pay37, ofBits_negInf, ofBits_posInf]

/-- The row maxima over the third quarter. -/
theorem s3mx2_at (o : Fin 64) :
    s3mx2 X0 X1 X3 X11 X12 X13 X14 X15 (ix2 o 0) =
      Finset.univ.fold max ⊥ (fun j : Fin 25088 => y3 X0 X1 X3 X11 X12 X13 X14 X15 o ⟨50176 + j.val, by omega⟩) := by
  unfold s3mx2 y3 y2f y1f
  pointwise [k0_pay41, k0_pay40, ofBits_negInf, ofBits_posInf]

/-- The row minima over the third quarter. -/
theorem s3mn2_at (o : Fin 64) :
    s3mn2 X0 X1 X3 X11 X12 X13 X14 X15 (ix2 o 0) =
      Finset.univ.fold min ⊤ (fun j : Fin 25088 => y3 X0 X1 X3 X11 X12 X13 X14 X15 o ⟨50176 + j.val, by omega⟩) := by
  unfold s3mn2 y3 y2f y1f
  pointwise [k0_pay42, k0_pay40, ofBits_negInf, ofBits_posInf]

/-- The row maxima over the last quarter. -/
theorem s3mx3_at (o : Fin 64) :
    s3mx3 X0 X1 X3 X11 X12 X13 X14 X15 (ix2 o 0) =
      Finset.univ.fold max ⊥ (fun j : Fin 24736 => y3 X0 X1 X3 X11 X12 X13 X14 X15 o ⟨75264 + j.val, by omega⟩) := by
  unfold s3mx3 s3p3 y3 y2f y1f
  pointwise [k0_pay45, k0_pay44, k0_pay43, ofBits_negInf, ofBits_posInf]

/-- The row minima over the last quarter. -/
theorem s3mn3_at (o : Fin 64) :
    s3mn3 X0 X1 X3 X11 X12 X13 X14 X15 (ix2 o 0) =
      Finset.univ.fold min ⊤ (fun j : Fin 24736 => y3 X0 X1 X3 X11 X12 X13 X14 X15 o ⟨75264 + j.val, by omega⟩) := by
  unfold s3mn3 s3p3 y3 y2f y1f
  pointwise [k0_pay46, k0_pay44, k0_pay43, ofBits_negInf, ofBits_posInf]

end Cert.KernelIdeal.Hand

end
-- ==== Proof.Blocks.lean ====
/-
  What one grid point's block of points gives each running buffer, read at an index.
-/
module

public import proofs.«01_k».proof.Proof.Layers

@[expose] public section

set_option maxRecDepth 16384

/-!
  What one grid point leaves in the running buffers, entry by entry: the sums, sums of squares, maxima and minima of a layer
  over the block's hundred thousand columns, joined from the four quarters the program handles one after the other.
-/

noncomputable section

namespace Cert.KernelIdeal.Hand

open Cert.KernelIdeal.Gen Idealize.ShloMosaic.View
open Idealize.ShloMosaic

/-! ### Four quarters are the block -/

/-- A sum over the quarters is the sum over the block's columns. -/
theorem sum_quarters {M : Type*} [AddCommMonoid M] (f : Fin 100352 → M) :
    ∑ j : Fin 25088, f ⟨j.val, by omega⟩ + ∑ j : Fin 25088, f ⟨25088 + j.val, by omega⟩
        + ∑ j : Fin 25088, f ⟨50176 + j.val, by omega⟩ + ∑ j : Fin 24736, f ⟨75264 + j.val, by omega⟩
      = ∑ n : Fin 100000, f ⟨n.val, by omega⟩ := by
  rw [Fin.sum_univ_two_halves 75264 24736 (by norm_num) (fun n : Fin 100000 => f ⟨n.val, by omega⟩),
    Fin.sum_univ_two_halves 50176 25088 (by norm_num) (fun n : Fin 75264 => f ⟨n.val, by omega⟩),
    Fin.sum_univ_two_halves 25088 25088 (by norm_num) (fun n : Fin 50176 => f ⟨n.val, by omega⟩)]

/-- Every column lies in one of the quarters. -/
theorem quarter_cases {P : Fin 100352 → Prop} (h0 : ∀ j : Fin 25088, P ⟨j.val, by omega⟩)
    (h1 : ∀ j : Fin 25088, P ⟨25088 + j.val, by omega⟩) (h2 : ∀ j : Fin 25088, P ⟨50176 + j.val, by omega⟩)
    (h3 : ∀ j : Fin 24736, P ⟨75264 + j.val, by omega⟩) (n : Fin 100000) : P ⟨n.val, by omega⟩ := by
  by_cases a : n.val < 25088
  · exact h0 ⟨n.val, a⟩
  by_cases b : n.val < 50176
  · have := h1 ⟨n.val - 25088, by omega⟩
    simpa [Nat.add_sub_cancel' (by omega : 25088 ≤ n.val)] using this
  by_cases c : n.val < 75264
  · have := h2 ⟨n.val - 50176, by omega⟩
    simpa [Nat.add_sub_cancel' (by omega : 50176 ≤ n.val)] using this
  · have := h3 ⟨n.val - 75264, by omega⟩
    simpa [Nat.add_sub_cancel' (by omega : 75264 ≤ n.val)] using this

/-- A bound on every quarter bounds the block. -/
theorem col_le_of (f : Fin 100352 → EReal) (B : EReal) (h0 : ∀ j : Fin 25088, f ⟨j.val, by omega⟩ ≤ B)
    (h1 : ∀ j : Fin 25088, f ⟨25088 + j.val, by omega⟩ ≤ B) (h2 : ∀ j : Fin 25088, f ⟨50176 + j.val, by omega⟩ ≤ B)
    (h3 : ∀ j : Fin 24736, f ⟨75264 + j.val, by omega⟩ ≤ B) (n : Fin 100000) : f ⟨n.val, by omega⟩ ≤ B :=
  quarter_cases (P := fun m => f m ≤ B) h0 h1 h2 h3 n

/-- A lower bound on every quarter bounds the block. -/
theorem le_col_of (f : Fin 100352 → EReal) (B : EReal) (h0 : ∀ j : Fin 25088, B ≤ f ⟨j.val, by omega⟩)
    (h1 : ∀ j : Fin 25088, B ≤ f ⟨25088 + j.val, by omega⟩) (h2 : ∀ j : Fin 25088, B ≤ f ⟨50176 + j.val, by omega⟩)
    (h3 : ∀ j : Fin 24736, B ≤ f ⟨75264 + j.val, by omega⟩) (n : Fin 100000) : B ≤ f ⟨n.val, by omega⟩ :=
  quarter_cases (P := fun m => B ≤ f m) h0 h1 h2 h3 n

/-- A value is at most the largest. -/
theorem le_sup_at {N : ℕ} (f : Fin N → EReal) (j : Fin N) : f j ≤ Finset.univ.sup f := Finset.le_sup (Finset.mem_univ j)

/-- A value is at least the least. -/
theorem inf_at_le {N : ℕ} (f : Fin N → EReal) (j : Fin N) : Finset.univ.inf f ≤ f j := Finset.inf_le (Finset.mem_univ j)

/-- A column's value is at most the block's maximum. -/
theorem le_sup_col (f : Fin 100352 → EReal) (m : Fin 100352) (h : m.val < 100000) :
    f m ≤ Finset.univ.sup fun n : Fin 100000 => f ⟨n.val, by omega⟩ :=
  le_sup_at (fun n : Fin 100000 => f ⟨n.val, by omega⟩) ⟨m.val, h⟩

/-- A column's value is at least the block's minimum. -/
theorem inf_col_le (f : Fin 100352 → EReal) (m : Fin 100352) (h : m.val < 100000) :
    (Finset.univ.inf fun n : Fin 100000 => f ⟨n.val, by omega⟩) ≤ f m :=
  inf_at_le (fun n : Fin 100000 => f ⟨n.val, by omega⟩) ⟨m.val, h⟩

/-- The largest of the quarters' maxima is the block's maximum. -/
theorem sup_quarters (f : Fin 100352 → EReal) :
    max (max (Finset.univ.fold max ⊥ fun j : Fin 25088 => f ⟨j.val, by omega⟩)
          (Finset.univ.fold max ⊥ fun j : Fin 25088 => f ⟨25088 + j.val, by omega⟩))
        (max (Finset.univ.fold max ⊥ fun j : Fin 25088 => f ⟨50176 + j.val, by omega⟩)
          (Finset.univ.fold max ⊥ fun j : Fin 24736 => f ⟨75264 + j.val, by omega⟩))
      = Finset.univ.sup fun n : Fin 100000 => f ⟨n.val, by omega⟩ := by
  show max (max (Finset.univ.sup fun j : Fin 25088 => f ⟨j.val, by omega⟩)
          (Finset.univ.sup fun j : Fin 25088 => f ⟨25088 + j.val, by omega⟩))
        (max (Finset.univ.sup fun j : Fin 25088 => f ⟨50176 + j.val, by omega⟩)
          (Finset.univ.sup fun j : Fin 24736 => f ⟨75264 + j.val, by omega⟩)) = _
  apply le_antisymm
  · refine max_le (max_le ?_ ?_) (max_le ?_ ?_) <;> refine Finset.sup_le fun j _ => ?_
    · exact le_sup_col f ⟨j.val, by omega⟩ (by simp only; omega)
    · exact le_sup_col f ⟨25088 + j.val, by omega⟩ (by simp only; omega)
    · exact le_sup_col f ⟨50176 + j.val, by omega⟩ (by simp only; omega)
    · exact le_sup_col f ⟨75264 + j.val, by omega⟩ (by simp only; omega)
  · refine Finset.sup_le fun n _ => ?_
    refine col_le_of f _ (fun j => ?_) (fun j => ?_) (fun j => ?_) (fun j => ?_) n
    · exact le_max_of_le_left (le_max_of_le_left
        (le_sup_at (fun j : Fin 25088 => f ⟨j.val, by omega⟩) j))
    · exact le_max_of_le_left (le_max_of_le_right
        (le_sup_at (fun j : Fin 25088 => f ⟨25088 + j.val, by omega⟩) j))
    · exact le_max_of_le_right (le_max_of_le_left
        (le_sup_at (fun j : Fin 25088 => f ⟨50176 + j.val, by omega⟩) j))
    · exact le_max_of_le_right (le_max_of_le_right
        (le_sup_at (fun j : Fin 24736 => f ⟨75264 + j.val, by omega⟩) j))

/-- The least of the quarters' minima is the block's minimum. -/
theorem inf_quarters (f : Fin 100352 → EReal) :
    min (min (Finset.univ.fold min ⊤ fun j : Fin 25088 => f ⟨j.val, by omega⟩)
          (Finset.univ.fold min ⊤ fun j : Fin 25088 => f ⟨25088 + j.val, by omega⟩))
        (min (Finset.univ.fold min ⊤ fun j : Fin 25088 => f ⟨50176 + j.val, by omega⟩)
          (Finset.univ.fold min ⊤ fun j : Fin 24736 => f ⟨75264 + j.val, by omega⟩))
      = Finset.univ.inf fun n : Fin 100000 => f ⟨n.val, by omega⟩ := by
  show min (min (Finset.univ.inf fun j : Fin 25088 => f ⟨j.val, by omega⟩)
          (Finset.univ.inf fun j : Fin 25088 => f ⟨25088 + j.val, by omega⟩))
        (min (Finset.univ.inf fun j : Fin 25088 => f ⟨50176 + j.val, by omega⟩)
          (Finset.univ.inf fun j : Fin 24736 => f ⟨75264 + j.val, by omega⟩)) = _
  apply le_antisymm
  · refine Finset.le_inf fun n _ => ?_
    refine le_col_of f _ (fun j => ?_) (fun j => ?_) (fun j => ?_) (fun j => ?_) n
    · exact min_le_of_left_le (min_le_of_left_le
        (inf_at_le (fun j : Fin 25088 => f ⟨j.val, by omega⟩) j))
    · exact min_le_of_left_le (min_le_of_right_le
        (inf_at_le (fun j : Fin 25088 => f ⟨25088 + j.val, by omega⟩) j))
    · exact min_le_of_right_le (min_le_of_left_le
        (inf_at_le (fun j : Fin 25088 => f ⟨50176 + j.val, by omega⟩) j))
    · exact min_le_of_right_le (min_le_of_right_le
        (inf_at_le (fun j : Fin 24736 => f ⟨75264 + j.val, by omega⟩) j))
  · refine le_min (le_min ?_ ?_) (le_min ?_ ?_) <;> refine Finset.le_inf fun j _ => ?_
    · exact inf_col_le f ⟨j.val, by omega⟩ (by simp only; omega)
    · exact inf_col_le f ⟨25088 + j.val, by omega⟩ (by simp only; omega)
    · exact inf_col_le f ⟨50176 + j.val, by omega⟩ (by simp only; omega)
    · exact inf_col_le f ⟨75264 + j.val, by omega⟩ (by simp only; omega)

/-- The sum of a layer over the block's columns. -/
def bsum (f : Fin 100352 → EReal) : EReal := ∑ n : Fin 100000, f ⟨n.val, by omega⟩

/-- The largest value over the block's columns. -/
def bmax (f : Fin 100352 → EReal) : EReal := Finset.univ.sup fun n : Fin 100000 => f ⟨n.val, by omega⟩

/-- The least value over the block's columns. -/
def bmin (f : Fin 100352 → EReal) : EReal := Finset.univ.inf fun n : Fin 100000 => f ⟨n.val, by omega⟩

/-! ### The program's tests on the point's second coordinate -/

/-- Choosing by a comparison of two machine words that hold small naturals. -/
theorem select_cmpi_eq {α : Type} (a b : ℕ) (ha : a < 8) (hb : b < 8) (x y : α) :
    Scalar.select (Scalar.cmpi CmpIPredicate.eq (BitVec.ofNat 32 a) (BitVec.ofNat 32 b)) x y = if a = b then x else y := by
  interval_cases a <;> interval_cases b <;> rfl

/-- The same at an entry of an array of words. -/
theorem select_intOp_eq {α : Type} (a b : ℕ) (ha : a < 8) (hb : b < 8) (x y : α) :
    Scalar.select (IntOp.cmpi CmpIPredicate.eq (BitVec.ofNat 32 a) (BitVec.ofNat 32 b)) x y = if a = b then x else y := by
  interval_cases a <;> interval_cases b <;> rfl

/-! ### The last operations of a point, at an entry -/

/-- The larger of four columns. -/
theorem max4_at (a b c d : FVec Ideal S64x1 .f32) (o : Fin 64) :
    k0_pay49 a b c d (ix2 o 0) = max (max (a (ix2 o 0)) (b (ix2 o 0))) (max (c (ix2 o 0)) (d (ix2 o 0))) := by
  pointwise [k0_pay49]

/-- The smaller of four columns. -/
theorem min4_at (a b c d : FVec Ideal S64x1 .f32) (o : Fin 64) :
    k0_pay50 a b c d (ix2 o 0) = min (min (a (ix2 o 0)) (b (ix2 o 0))) (min (c (ix2 o 0)) (d (ix2 o 0))) := by
  pointwise [k0_pay50]

/-- The row of tests "is this the point's column". -/
theorem pay51_at (w : BitVec 32) (u : Fin 8) :
    k0_pay51 w (ix2 0 u) = IntOp.cmpi CmpIPredicate.eq (BitVec.ofNat 32 ↑u) w := by
  pointwise [k0_pay51]

/-- The same row, recast to its own shape. -/
theorem pay54_at (w : BitVec 32) (u : Fin 8) :
    k0_pay54 w (ix2 0 u) = IntOp.cmpi CmpIPredicate.eq (BitVec.ofNat 32 ↑u) w := by
  pointwise [k0_pay54, k0_pay51]

/-- The maxima so far, started from minus infinity. -/
theorem pay52_at (w : BitVec 1) (x : Vec Ideal S64x8 .f32) (o : Fin 64) (u : Fin 8) :
    k0_pay52 w x (ix2 o u) = Scalar.select w ⊥ (x (ix2 o u)) := by
  pointwise [k0_pay52, ofBits_negInf]

/-- The minima so far, started from plus infinity. -/
theorem pay53_at (w : BitVec 1) (x : Vec Ideal S64x8 .f32) (o : Fin 64) (u : Fin 8) :
    k0_pay53 w x (ix2 o u) = Scalar.select w ⊤ (x (ix2 o u)) := by
  pointwise [k0_pay53, ofBits_posInf]

/-- The maxima after a point. -/
theorem pay12_at (a : FVec Ideal S64x1 .f32) (x : FVec Ideal S64x8 .f32) (z : Ideal .f32) (w : IVec S1x8 1) (o : Fin 64)
    (u : Fin 8) : k0_pay12 a x z w (ix2 o u) = max (x (ix2 o u)) (Scalar.select (w (ix2 0 u)) (a (ix2 o 0)) z) := by
  pointwise [k0_pay12]

/-- The minima after a point. -/
theorem pay13_at (a : FVec Ideal S64x1 .f32) (x : FVec Ideal S64x8 .f32) (w : IVec S1x8 1) (o : Fin 64) (u : Fin 8) :
    k0_pay13 a w x (ix2 o u) = min (x (ix2 o u)) (Scalar.select (w (ix2 0 u)) (a (ix2 o 0)) ⊤) := by
  pointwise [k0_pay13, ofBits_posInf]

/-- A whole-buffer load of a [64, 8] buffer is its content. -/
theorem ld_64x8 (x : Vec Ideal S64x8 .f32) (o : Fin 64) (u : Fin 8) : ld x r_S64x8_S64x8_0_0 (ix2 o u) = x (ix2 o u) := by
  pointwise

/-! ### A point's step, at an entry -/

variable (i : grid0.Coords) (X0 : Vec Ideal S1x3x100352 .f32) (X1 : Vec Ideal S1x16x100352 .f32)
  (X2 : Vec Ideal S32x19 .f32) (X3 : Vec Ideal S96x32 .f32) (X6 X7 : Vec Ideal S32x2 .f32) (X8 : Vec Ideal S64x2 .f32)
  (X9 X10 : Vec Ideal S64x8 .f32) (X11 : Vec Ideal S32x3 .f32) (X12 : Vec Ideal S32x16 .f32) (X13 : Vec Ideal S32x1 .f32)
  (X14 : Vec Ideal S32x32 .f32) (X15 : Vec Ideal S32x1 .f32)

/-- Layer 1's sums over the quarters are those over the block. -/
theorem total1_0 (o : Fin 32) :
    ∑ x, s1z0 X0 X1 X2 (ix2 o x) + ∑ x, s1z1 X0 X1 X2 (ix2 o x) + ∑ x, s1z2 X0 X1 X2 (ix2 o x) + ∑ x, s1z3 X0 X1 X2 (ix2 o x) = bsum (y1 X0 X1 X2 o) := by
  simp only [s1z0_at, s1z1_at, s1z2_at, s1z3_at]
  exact sum_quarters (y1 X0 X1 X2 o)

/-- Layer 1's running sums after a point. -/
theorem step1_0 (o : Fin 32) :
    step1 i X0 X1 X2 X6 (ix2 o 0) =
      if (i 1).val = 0 then bsum (y1 X0 X1 X2 o) else X6 (ix2 o 0) + bsum (y1 X0 X1 X2 o) := by
  rw [← total1_0, ← select_cmpi_eq (i 1).val 0 (i 1).isLt (by norm_num)]
  unfold step1 s1sum s1sq0 s1z1sq
  pointwise [k0_pay10, k0_pay20, k0_pay21, k0_pay22]
  rfl

/-- Layer 1's sums of squares over the quarters are those over the block. -/
theorem total1_1 (o : Fin 32) :
    ∑ x, s1z0 X0 X1 X2 (ix2 o x) * s1z0 X0 X1 X2 (ix2 o x) + ∑ x, s1z1 X0 X1 X2 (ix2 o x) * s1z1 X0 X1 X2 (ix2 o x) + ∑ x, s1z2 X0 X1 X2 (ix2 o x) * s1z2 X0 X1 X2 (ix2 o x) + ∑ x, s1z3 X0 X1 X2 (ix2 o x) * s1z3 X0 X1 X2 (ix2 o x) = bsum (fun n => y1 X0 X1 X2 o n * y1 X0 X1 X2 o n) := by
  simp only [s1z0_at, s1z1_at, s1z2_at, s1z3_at]
  exact sum_quarters (fun n => y1 X0 X1 X2 o n * y1 X0 X1 X2 o n)

/-- Layer 1's running sums of squares after a point. -/
theorem step1_1 (o : Fin 32) :
    step1 i X0 X1 X2 X6 (ix2 o 1) =
      if (i 1).val = 0 then bsum (fun n => y1 X0 X1 X2 o n * y1 X0 X1 X2 o n) else X6 (ix2 o 1) + bsum (fun n => y1 X0 X1 X2 o n * y1 X0 X1 X2 o n) := by
  rw [← total1_1, ← select_cmpi_eq (i 1).val 0 (i 1).isLt (by norm_num)]
  unfold step1 s1sum s1sq0 s1z1sq
  pointwise [k0_pay10, k0_pay20, k0_pay21, k0_pay22]

/-- Layer 2's sums over the quarters are those over the block. -/
theorem total2_0 (o : Fin 32) :
    ∑ x, s2z0 X0 X1 X3 X11 X12 X13 (ix2 o x) + ∑ x, s2z1 X0 X1 X3 X11 X12 X13 (ix2 o x) + ∑ x, s2z2 X0 X1 X3 X11 X12 X13 (ix2 o x) + ∑ x, s2z3 X0 X1 X3 X11 X12 X13 (ix2 o x) = bsum (y2 X0 X1 X3 X11 X12 X13 o) := by
  simp only [s2z0_at, s2z1_at, s2z2_at, s2z3_at]
  exact sum_quarters (y2 X0 X1 X3 X11 X12 X13 o)

/-- Layer 2's running sums after a point. -/
theorem step2_0 (o : Fin 32) :
    step2 i X0 X1 X3 X7 X11 X12 X13 (ix2 o 0) =
      if (i 1).val = 0 then bsum (y2 X0 X1 X3 X11 X12 X13 o) else X7 (ix2 o 0) + bsum (y2 X0 X1 X3 X11 X12 X13 o) := by
  rw [← total2_0, ← select_cmpi_eq (i 1).val 0 (i 1).isLt (by norm_num)]
  unfold step2 s2sum s2sq01 s2z2sq
  pointwise [k0_pay11, k0_pay31, k0_pay32, k0_pay33]
  rfl

/-- Layer 2's sums of squares over the quarters are those over the block. -/
theorem total2_1 (o : Fin 32) :
    ∑ x, s2z0 X0 X1 X3 X11 X12 X13 (ix2 o x) * s2z0 X0 X1 X3 X11 X12 X13 (ix2 o x) + ∑ x, s2z1 X0 X1 X3 X11 X12 X13 (ix2 o x) * s2z1 X0 X1 X3 X11 X12 X13 (ix2 o x) + ∑ x, s2z2 X0 X1 X3 X11 X12 X13 (ix2 o x) * s2z2 X0 X1 X3 X11 X12 X13 (ix2 o x) + ∑ x, s2z3 X0 X1 X3 X11 X12 X13 (ix2 o x) * s2z3 X0 X1 X3 X11 X12 X13 (ix2 o x) = bsum (fun n => y2 X0 X1 X3 X11 X12 X13 o n * y2 X0 X1 X3 X11 X12 X13 o n) := by
  simp only [s2z0_at, s2z1_at, s2z2_at, s2z3_at]
  exact sum_quarters (fun n => y2 X0 X1 X3 X11 X12 X13 o n * y2 X0 X1 X3 X11 X12 X13 o n)

/-- Layer 2's running sums of squares after a point. -/
theorem step2_1 (o : Fin 32) :
    step2 i X0 X1 X3 X7 X11 X12 X13 (ix2 o 1) =
      if (i 1).val = 0 then bsum (fun n => y2 X0 X1 X3 X11 X12 X13 o n * y2 X0 X1 X3 X11 X12 X13 o n) else X7 (ix2 o 1) + bsum (fun n => y2 X0 X1 X3 X11 X12 X13 o n * y2 X0 X1 X3 X11 X12 X13 o n) := by
  rw [← total2_1, ← select_cmpi_eq (i 1).val 0 (i 1).isLt (by norm_num)]
  unfold step2 s2sum s2sq01 s2z2sq
  pointwise [k0_pay11, k0_pay31, k0_pay32, k0_pay33]

/-- Layer 3's sums over the quarters are those over the block. -/
theorem total3_0 (o : Fin 64) :
    ∑ x, s3z0 X0 X1 X3 X11 X12 X13 X14 X15 (ix2 o x) + ∑ x, s3z1 X0 X1 X3 X11 X12 X13 X14 X15 (ix2 o x) + ∑ x, s3z2 X0 X1 X3 X11 X12 X13 X14 X15 (ix2 o x) + ∑ x, s3z3 X0 X1 X3 X11 X12 X13 X14 X15 (ix2 o x) = bsum (y3 X0 X1 X3 X11 X12 X13 X14 X15 o) := by
  simp only [s3z0_at, s3z1_at, s3z2_at, s3z3_at]
  exact sum_quarters (y3 X0 X1 X3 X11 X12 X13 X14 X15 o)

/-- Layer 3's running sums after a point. -/
theorem step3_0 (o : Fin 64) :
    step3 i X0 X1 X3 X8 X11 X12 X13 X14 X15 (ix2 o 0) =
      if (i 1).val = 0 then bsum (y3 X0 X1 X3 X11 X12 X13 X14 X15 o) else X8 (ix2 o 0) + bsum (y3 X0 X1 X3 X11 X12 X13 X14 X15 o) := by
  rw [← total3_0, ← select_cmpi_eq (i 1).val 0 (i 1).isLt (by norm_num)]
  unfold step3 s3sum012
  pointwise [k0_pay48, k0_pay47]

/-- Layer 3's sums of squares over the quarters are those over the block. -/
theorem total3_1 (o : Fin 64) :
    ∑ x, s3z0 X0 X1 X3 X11 X12 X13 X14 X15 (ix2 o x) * s3z0 X0 X1 X3 X11 X12 X13 X14 X15 (ix2 o x) + ∑ x, s3z1 X0 X1 X3 X11 X12 X13 X14 X15 (ix2 o x) * s3z1 X0 X1 X3 X11 X12 X13 X14 X15 (ix2 o x) + ∑ x, s3z2 X0 X1 X3 X11 X12 X13 X14 X15 (ix2 o x) * s3z2 X0 X1 X3 X11 X12 X13 X14 X15 (ix2 o x) + ∑ x, s3z3 X0 X1 X3 X11 X12 X13 X14 X15 (ix2 o x) * s3z3 X0 X1 X3 X11 X12 X13 X14 X15 (ix2 o x) = bsum (fun n => y3 X0 X1 X3 X11 X12 X13 X14 X15 o n * y3 X0 X1 X3 X11 X12 X13 X14 X15 o n) := by
  simp only [s3z0_at, s3z1_at, s3z2_at, s3z3_at]
  exact sum_quarters (fun n => y3 X0 X1 X3 X11 X12 X13 X14 X15 o n * y3 X0 X1 X3 X11 X12 X13 X14 X15 o n)

/-- Layer 3's running sums of squares after a point. -/
theorem step3_1 (o : Fin 64) :
    step3 i X0 X1 X3 X8 X11 X12 X13 X14 X15 (ix2 o 1) =
      if (i 1).val = 0 then bsum (fun n => y3 X0 X1 X3 X11 X12 X13 X14 X15 o n * y3 X0 X1 X3 X11 X12 X13 X14 X15 o n) else X8 (ix2 o 1) + bsum (fun n => y3 X0 X1 X3 X11 X12 X13 X14 X15 o n * y3 X0 X1 X3 X11 X12 X13 X14 X15 o n) := by
  rw [← total3_1, ← select_cmpi_eq (i 1).val 0 (i 1).isLt (by norm_num)]
  unfold step3 s3sum012
  pointwise [k0_pay48, k0_pay47]

/-- The maxima buffer after a point: the point's own column takes the block's maximum. -/
theorem stepMx_at (o : Fin 64) (u : Fin 8) :
    stepMx i X0 X1 X3 X9 X11 X12 X13 X14 X15 (ix2 o u) =
      max (if (i 1).val = 0 then ⊥ else X9 (ix2 o u)) (if u.val = (i 1).val then bmax (y3 X0 X1 X3 X11 X12 X13 X14 X15 o) else ⊥) := by
  unfold stepMx s3mx
  rw [pay12_at, pay52_at, pay54_at, max4_at, ld_64x8, s3mx0_at, s3mx1_at, s3mx2_at, s3mx3_at, sup_quarters (y3 X0 X1 X3 X11 X12 X13 X14 X15 o)]
  exact congrArg₂ max (select_cmpi_eq (i 1).val 0 (i 1).isLt (by norm_num) _ _)
    ((select_intOp_eq u.val (i 1).val u.isLt (i 1).isLt _ _).trans (by rw [show (Scalar.ofBits .f32 0xFF800000#32 : Ideal .f32) = ⊥ from ofBits_negInf]; rfl))

/-- The minima buffer after a point. -/
theorem stepMn_at (o : Fin 64) (u : Fin 8) :
    stepMn i X0 X1 X3 X10 X11 X12 X13 X14 X15 (ix2 o u) =
      min (if (i 1).val = 0 then ⊤ else X10 (ix2 o u)) (if u.val = (i 1).val then bmin (y3 X0 X1 X3 X11 X12 X13 X14 X15 o) else ⊤) := by
  unfold stepMn s3mn
  rw [pay13_at, pay53_at, pay51_at, min4_at, ld_64x8, s3mn0_at, s3mn1_at, s3mn2_at, s3mn3_at, inf_quarters (y3 X0 X1 X3 X11 X12 X13 X14 X15 o)]
  exact congrArg₂ min (select_cmpi_eq (i 1).val 0 (i 1).isLt (by norm_num) _ _)
    (select_intOp_eq u.val (i 1).val u.isLt (i 1).isLt _ _)

end Cert.KernelIdeal.Hand

end
-- ==== Proof.Net.lean ====
/-
  The network as the kernel computes it, in plain sums: three layers over eight clouds of a hundred thousand points, each
  layer's scale and shift taken from the sum and the sum of squares of its linear part over all the points.
-/
module

public import Idealize.ShloMosaic.PureOps.Ideal
public import Idealize.ShloMosaic.PureOps.Ideal.Laws

@[expose] public section

noncomputable section

namespace Cert.Net

open Idealize.ShloMosaic

/-- One over the number of points the statistics range over. -/
def rN : EReal := ((1 / 800000 : ℝ) : EReal)

/-- The small constant under the square root. -/
def eps : EReal := Ideal.ofBits .f32 0x3727C5AC#32

/-- A layer's scale from its sum and its sum of squares. -/
def scale (g S Q : EReal) : EReal := Ideal.div g (Ideal.sqrt (Q * rN - S * rN * (S * rN) + eps))

/-- A layer's shift. -/
def shift (g be S Q : EReal) : EReal := be - scale g S Q * (S * rN)

/-- The network's arrays: the points' coordinates and features, the three layers' weights, scales and offsets. -/
structure Data where
  pos : Fin 8 → Fin 3 → Fin 100000 → EReal
  feat : Fin 8 → Fin 16 → Fin 100000 → EReal
  w1 : Fin 32 → Fin 19 → EReal
  w2 : Fin 32 → Fin 32 → EReal
  w3 : Fin 64 → Fin 32 → EReal
  g1 : Fin 32 → EReal
  be1 : Fin 32 → EReal
  g2 : Fin 32 → EReal
  be2 : Fin 32 → EReal
  g3 : Fin 64 → EReal
  be3 : Fin 64 → EReal

namespace Data

variable (D : Data)

/-- Layer 1's linear part at point `n` of cloud `b`. -/
def z1 (b : Fin 8) (n : Fin 100000) (o : Fin 32) : EReal :=
  ∑ k : Fin 3, D.w1 o ⟨k.val, by omega⟩ * D.pos b k n + ∑ k : Fin 16, D.w1 o ⟨3 + k.val, by omega⟩ * D.feat b k n

/-- Its sum over one cloud. -/
def s1 (o : Fin 32) (b : Fin 8) : EReal := ∑ n, D.z1 b n o

/-- Its sum of squares over one cloud. -/
def q1 (o : Fin 32) (b : Fin 8) : EReal := ∑ n, D.z1 b n o * D.z1 b n o

/-- Layer 1's scale. -/
def a1 (o : Fin 32) : EReal := scale (D.g1 o) (∑ b, D.s1 o b) (∑ b, D.q1 o b)

/-- Layer 1's shift. -/
def c1 (o : Fin 32) : EReal := shift (D.g1 o) (D.be1 o) (∑ b, D.s1 o b) (∑ b, D.q1 o b)

/-- Layer 1's output, the scale folded into the weights. -/
def h1 (b : Fin 8) (n : Fin 100000) (o : Fin 32) : EReal :=
  max (∑ k : Fin 3, (D.a1 o * D.w1 o ⟨k.val, by omega⟩) * D.pos b k n
    + ∑ k : Fin 16, (D.a1 o * D.w1 o ⟨3 + k.val, by omega⟩) * D.feat b k n + D.c1 o) 0

/-- Layer 2's linear part. -/
def z2 (b : Fin 8) (n : Fin 100000) (o : Fin 32) : EReal := ∑ x, D.w2 o x * D.h1 b n x

/-- Its sum over one cloud. -/
def s2 (o : Fin 32) (b : Fin 8) : EReal := ∑ n, D.z2 b n o

/-- Its sum of squares over one cloud. -/
def q2 (o : Fin 32) (b : Fin 8) : EReal := ∑ n, D.z2 b n o * D.z2 b n o

/-- Layer 2's scale. -/
def a2 (o : Fin 32) : EReal := scale (D.g2 o) (∑ b, D.s2 o b) (∑ b, D.q2 o b)

/-- Layer 2's shift. -/
def c2 (o : Fin 32) : EReal := shift (D.g2 o) (D.be2 o) (∑ b, D.s2 o b) (∑ b, D.q2 o b)

/-- Layer 2's output, the scale folded into the weights. -/
def h2 (b : Fin 8) (n : Fin 100000) (o : Fin 32) : EReal := max (∑ x, (D.a2 o * D.w2 o x) * D.h1 b n x + D.c2 o) 0

/-- Layer 3's linear part. -/
def z3 (b : Fin 8) (n : Fin 100000) (o : Fin 64) : EReal := ∑ x, D.w3 o x * D.h2 b n x

/-- Its sum over one cloud. -/
def s3 (o : Fin 64) (b : Fin 8) : EReal := ∑ n, D.z3 b n o

/-- Its sum of squares over one cloud. -/
def q3 (o : Fin 64) (b : Fin 8) : EReal := ∑ n, D.z3 b n o * D.z3 b n o

/-- Its largest value over one cloud. -/
def mx (o : Fin 64) (b : Fin 8) : EReal := Finset.univ.sup fun n => D.z3 b n o

/-- Its least value over one cloud. -/
def mn (o : Fin 64) (b : Fin 8) : EReal := Finset.univ.inf fun n => D.z3 b n o

/-- Layer 3's scale. -/
def a3 (o : Fin 64) : EReal := scale (D.g3 o) (∑ b, D.s3 o b) (∑ b, D.q3 o b)

/-- Layer 3's shift. -/
def c3 (o : Fin 64) : EReal := shift (D.g3 o) (D.be3 o) (∑ b, D.s3 o b) (∑ b, D.q3 o b)

/-- The output: the extreme the scale's sign picks, scaled, shifted and cut at zero. -/
def out (b : Fin 8) (o : Fin 64) : EReal :=
  max (D.a3 o * (if 0 ≤ D.a3 o then D.mx o b else D.mn o b) + D.c3 o) 0

end Data

/-- The part of a sum over the clouds the first `m` of them make. -/
def part (m : ℕ) (f : Fin 8 → EReal) : EReal := ∑ b ∈ Finset.univ.filter (fun b : Fin 8 => b.val < m), f b

/-- After the first cloud. -/
theorem part_one (f : Fin 8 → EReal) (b : Fin 8) (h : b.val = 0) : part (b.val + 1) f = f b := by
  have hb : b = 0 := Fin.ext h
  subst hb
  unfold part
  rw [show Finset.univ.filter (fun b : Fin 8 => b.val < (0 : Fin 8).val + 1) = {0} from by decide, Finset.sum_singleton]

/-- One cloud more. -/
theorem part_succ (f : Fin 8 → EReal) (b : Fin 8) : part (b.val + 1) f = part b.val f + f b := by
  unfold part
  rw [show Finset.univ.filter (fun x : Fin 8 => x.val < b.val + 1)
      = insert b (Finset.univ.filter fun x : Fin 8 => x.val < b.val) from by revert b; decide,
    Finset.sum_insert (by simp), add_comm]

/-- All the clouds. -/
theorem part_all (f : Fin 8 → EReal) : part 8 f = ∑ b, f b := by
  unfold part
  rw [Finset.filter_true_of_mem (fun b _ => b.isLt)]

end Cert.Net

end
-- ==== Proof.Holds.lean ====
/-
  What the running buffers hold after some of a phase's points, and that each point's step keeps it so.
-/
module

public import proofs.«01_k».proof.Proof.Blocks
public import proofs.«01_k».proof.Proof.Net

@[expose] public section

set_option maxRecDepth 16384

noncomputable section

namespace Cert.KernelIdeal.Hand

open Cert.KernelIdeal.Gen Idealize.ShloMosaic.View
open Idealize.ShloMosaic Cert.Net

/-- The network the kernel's operand arrays spell: the coordinates, the features, layer 1's weights, the two other layers'
    stacked weights, and the stacked scales and offsets. -/
def netOf (P : Vec Ideal S8x3x100000 .f32) (Q : Vec Ideal S8x16x100000 .f32) (W : Vec Ideal S32x19 .f32)
    (U : Vec Ideal S96x32 .f32) (G : Vec Ideal S256x1 .f32) : Data where
  pos b k n := P (ix3 b k n)
  feat b k n := Q (ix3 b k n)
  w1 o k := W (ix2 o k)
  w2 o k := U (ix2 ⟨o.val, by omega⟩ k)
  w3 o k := U (ix2 ⟨32 + o.val, by omega⟩ k)
  g1 o := G (ix2 ⟨o.val, by omega⟩ 0)
  be1 o := G (ix2 ⟨32 + o.val, by omega⟩ 0)
  g2 o := G (ix2 ⟨64 + o.val, by omega⟩ 0)
  be2 o := G (ix2 ⟨96 + o.val, by omega⟩ 0)
  g3 o := G (ix2 ⟨128 + o.val, by omega⟩ 0)
  be3 o := G (ix2 ⟨192 + o.val, by omega⟩ 0)

variable (P : Vec Ideal S8x3x100000 .f32) (Q : Vec Ideal S8x16x100000 .f32) (W : Vec Ideal S32x19 .f32)
  (U : Vec Ideal S96x32 .f32) (G : Vec Ideal S256x1 .f32)

/-- The two block buffers hold cloud `b` on the columns that exist; beyond them anything. -/
def HoldsBlock (b : Fin 8) (X0 : Vec Ideal S1x3x100352 .f32) (X1 : Vec Ideal S1x16x100352 .f32) : Prop :=
  (∀ k (n : Fin 100000), X0 (ix3 0 k ⟨n.val, by omega⟩) = P (ix3 b k n)) ∧
  ∀ k (n : Fin 100000), X1 (ix3 0 k ⟨n.val, by omega⟩) = Q (ix3 b k n)

/-- Layer 1's statistics over the first `m` clouds. -/
def Stat1 (m : ℕ) (X6 : Vec Ideal S32x2 .f32) : Prop := ∀ o,
  X6 (ix2 o 0) = part m ((netOf P Q W U G).s1 o) ∧ X6 (ix2 o 1) = part m ((netOf P Q W U G).q1 o)

/-- Layer 1 folded. -/
def Fold1 (X11 : Vec Ideal S32x3 .f32) (X12 : Vec Ideal S32x16 .f32) (X13 : Vec Ideal S32x1 .f32) : Prop := ∀ o,
  (∀ k : Fin 3, X11 (ix2 o k) = (netOf P Q W U G).a1 o * (netOf P Q W U G).w1 o ⟨k.val, by omega⟩) ∧
  (∀ k : Fin 16, X12 (ix2 o k) = (netOf P Q W U G).a1 o * (netOf P Q W U G).w1 o ⟨3 + k.val, by omega⟩) ∧
  X13 (ix2 o 0) = (netOf P Q W U G).c1 o

/-- Layer 2's statistics over the first `m` clouds. -/
def Stat2 (m : ℕ) (X7 : Vec Ideal S32x2 .f32) : Prop := ∀ o,
  X7 (ix2 o 0) = part m ((netOf P Q W U G).s2 o) ∧ X7 (ix2 o 1) = part m ((netOf P Q W U G).q2 o)

/-- Layer 2 folded. -/
def Fold2 (X14 : Vec Ideal S32x32 .f32) (X15 : Vec Ideal S32x1 .f32) : Prop := ∀ o,
  (∀ k, X14 (ix2 o k) = (netOf P Q W U G).a2 o * (netOf P Q W U G).w2 o k) ∧ X15 (ix2 o 0) = (netOf P Q W U G).c2 o

/-- Layer 3's statistics over the first `m` clouds. -/
def Stat3 (m : ℕ) (X8 : Vec Ideal S64x2 .f32) : Prop := ∀ o,
  X8 (ix2 o 0) = part m ((netOf P Q W U G).s3 o) ∧ X8 (ix2 o 1) = part m ((netOf P Q W U G).q3 o)

/-- Layer 3's extremes of the first `m` clouds, each in its column. -/
def Ext (m : ℕ) (X9 X10 : Vec Ideal S64x8 .f32) : Prop := ∀ o (u : Fin 8),
  X9 (ix2 o u) = (if u.val < m then (netOf P Q W U G).mx o u else ⊥) ∧
  X10 (ix2 o u) = (if u.val < m then (netOf P Q W U G).mn o u else ⊤)

variable {P Q W U G} {b : Fin 8} {X0 : Vec Ideal S1x3x100352 .f32} {X1 : Vec Ideal S1x16x100352 .f32}
  {X6 X7 : Vec Ideal S32x2 .f32} {X8 : Vec Ideal S64x2 .f32}
  {X9 X10 : Vec Ideal S64x8 .f32} {X11 : Vec Ideal S32x3 .f32} {X12 : Vec Ideal S32x16 .f32} {X13 : Vec Ideal S32x1 .f32}
  {X14 : Vec Ideal S32x32 .f32} {X15 : Vec Ideal S32x1 .f32}

/-! ### The layers of a held block are the network's -/

theorem y1_eq (hB : HoldsBlock P Q b X0 X1) (o : Fin 32) (n : Fin 100000) :
    y1 X0 X1 W o ⟨n.val, by omega⟩ = (netOf P Q W U G).z1 b n o := by
  unfold y1 Data.z1
  simp only [hB.1, hB.2]; rfl

theorem y1f_eq (hB : HoldsBlock P Q b X0 X1) (h1 : Fold1 P Q W U G X11 X12 X13) (o : Fin 32) (n : Fin 100000) :
    y1f X0 X1 X11 X12 X13 o ⟨n.val, by omega⟩ = (netOf P Q W U G).h1 b n o := by
  unfold y1f Data.h1
  simp only [hB.1, hB.2, (h1 o).1, (h1 o).2.1, (h1 o).2.2]; rfl

theorem y2_eq (hB : HoldsBlock P Q b X0 X1) (h1 : Fold1 P Q W U G X11 X12 X13) (o : Fin 32) (n : Fin 100000) :
    y2 X0 X1 U X11 X12 X13 o ⟨n.val, by omega⟩ = (netOf P Q W U G).z2 b n o := by
  unfold y2 Data.z2
  simp only [y1f_eq hB h1]; rfl

theorem y2f_eq (hB : HoldsBlock P Q b X0 X1) (h1 : Fold1 P Q W U G X11 X12 X13) (h2 : Fold2 P Q W U G X14 X15)
    (o : Fin 32) (n : Fin 100000) :
    y2f X0 X1 X11 X12 X13 X14 X15 o ⟨n.val, by omega⟩ = (netOf P Q W U G).h2 b n o := by
  unfold y2f Data.h2
  simp only [y1f_eq hB h1, (h2 o).1, (h2 o).2]

theorem y3_eq (hB : HoldsBlock P Q b X0 X1) (h1 : Fold1 P Q W U G X11 X12 X13) (h2 : Fold2 P Q W U G X14 X15)
    (o : Fin 64) (n : Fin 100000) :
    y3 X0 X1 U X11 X12 X13 X14 X15 o ⟨n.val, by omega⟩ = (netOf P Q W U G).z3 b n o := by
  unfold y3 Data.z3
  simp only [y2f_eq hB h1 h2]; rfl

/-! ### A point's step keeps what the buffers hold -/

/-- A running total one cloud on. -/
theorem part_step (f : Fin 8 → EReal) (b : Fin 8) (j : Fin 8) (hj : j.val = b.val) (x s : EReal) (hs : s = f b)
    (hx : b.val ≠ 0 → x = part b.val f) : (if j.val = 0 then s else x + s) = part (b.val + 1) f := by
  subst hs
  split
  · exact (part_one f b (by omega)).symm
  · rw [hx (by omega), part_succ]

theorem stat1_step {i : grid0.Coords} (hi : (i 1).val = b.val) (hB : HoldsBlock P Q b X0 X1)
    (h : b.val ≠ 0 → Stat1 P Q W U G b.val X6) : Stat1 P Q W U G (b.val + 1) (step1 i X0 X1 W X6) := by
  intro o
  rw [step1_0, step1_1]
  refine ⟨part_step _ b (i 1) hi _ _ ?_ fun h0 => (h h0 o).1, part_step _ b (i 1) hi _ _ ?_ fun h0 => (h h0 o).2⟩
  · unfold bsum; simp only [y1_eq (U := U) (G := G) hB]; rfl
  · unfold bsum; simp only [y1_eq (U := U) (G := G) hB]; rfl

theorem stat2_step {i : grid0.Coords} (hi : (i 1).val = b.val) (hB : HoldsBlock P Q b X0 X1)
    (h1 : Fold1 P Q W U G X11 X12 X13)
    (h : b.val ≠ 0 → Stat2 P Q W U G b.val X7) : Stat2 P Q W U G (b.val + 1) (step2 i X0 X1 U X7 X11 X12 X13) := by
  intro o
  rw [step2_0, step2_1]
  refine ⟨part_step _ b (i 1) hi _ _ ?_ fun h0 => (h h0 o).1, part_step _ b (i 1) hi _ _ ?_ fun h0 => (h h0 o).2⟩
  · unfold bsum; simp only [y2_eq hB h1]; rfl
  · unfold bsum; simp only [y2_eq hB h1]; rfl

theorem stat3_step {i : grid0.Coords} (hi : (i 1).val = b.val) (hB : HoldsBlock P Q b X0 X1)
    (h1 : Fold1 P Q W U G X11 X12 X13) (h2 : Fold2 P Q W U G X14 X15)
    (h : b.val ≠ 0 → Stat3 P Q W U G b.val X8) :
    Stat3 P Q W U G (b.val + 1) (step3 i X0 X1 U X8 X11 X12 X13 X14 X15) := by
  intro o
  rw [step3_0, step3_1]
  refine ⟨part_step _ b (i 1) hi _ _ ?_ fun h0 => (h h0 o).1, part_step _ b (i 1) hi _ _ ?_ fun h0 => (h h0 o).2⟩
  · unfold bsum; simp only [y3_eq hB h1 h2]; rfl
  · unfold bsum; simp only [y3_eq hB h1 h2]; rfl

theorem ext_step {i : grid0.Coords} (hi : (i 1).val = b.val) (hB : HoldsBlock P Q b X0 X1)
    (h1 : Fold1 P Q W U G X11 X12 X13) (h2 : Fold2 P Q W U G X14 X15)
    (h : b.val ≠ 0 → Ext P Q W U G b.val X9 X10) :
    Ext P Q W U G (b.val + 1) (stepMx i X0 X1 U X9 X11 X12 X13 X14 X15) (stepMn i X0 X1 U X10 X11 X12 X13 X14 X15) := by
  intro o u
  have e9 : bmax (y3 X0 X1 U X11 X12 X13 X14 X15 o) = (netOf P Q W U G).mx o b := by
    unfold bmax Data.mx; simp only [y3_eq hB h1 h2]
  have e10 : bmin (y3 X0 X1 U X11 X12 X13 X14 X15 o) = (netOf P Q W U G).mn o b := by
    unfold bmin Data.mn; simp only [y3_eq hB h1 h2]
  rw [stepMx_at, stepMn_at, e9, e10, hi]
  have p9 : (if b.val = 0 then ⊥ else X9 (ix2 o u)) = if u.val < b.val then (netOf P Q W U G).mx o u else ⊥ := by
    split
    · rw [if_neg (by omega)]
    · exact (h (by assumption) o u).1
  have p10 : (if b.val = 0 then ⊤ else X10 (ix2 o u)) = if u.val < b.val then (netOf P Q W U G).mn o u else ⊤ := by
    split
    · rw [if_neg (by omega)]
    · exact (h (by assumption) o u).2
  rw [p9, p10]
  rcases lt_trichotomy u.val b.val with hu | hu | hu
  · rw [if_pos hu, if_neg (by omega), if_pos (by omega), if_pos hu, if_neg (by omega), if_pos (by omega)]
    exact ⟨max_bot_right _, min_top_right _⟩
  · have : u = b := Fin.ext hu
    subst this
    simp
  · rw [if_neg (by omega), if_neg (by omega), if_neg (by omega), if_neg (by omega), if_neg (by omega), if_neg (by omega)]
    exact ⟨max_self _, min_self _⟩

/-! ### Folding and the output -/

theorem named_rN : Named.named (F := Ideal) (φ := .f32) Cert.KernelIdeal.κ "inv_cnt" 900187564#32 = rN := rfl

theorem fold1_new (h : Stat1 P Q W U G 8 X6) : Fold1 P Q W U G (newW1p W G X6) (newW1f W G X6) (newC1 G X6) := by
  intro o
  have hs : (∑ b, (netOf P Q W U G).s1 o b) = X6 (ix2 o 0) := ((h o).1.trans (part_all _)).symm
  have hq : (∑ b, (netOf P Q W U G).q1 o b) = X6 (ix2 o 1) := ((h o).2.trans (part_all _)).symm
  refine ⟨fun k => ?_, fun k => ?_, ?_⟩
  · unfold newW1p Data.a1 scale eps; rw [hs, hq]
    pointwise [k0_pay3, k0_pay1, k0_pay2, k0_pay5, named_rN]
    rfl
  · unfold newW1f Data.a1 scale eps; rw [hs, hq]
    pointwise [k0_pay4, k0_pay1, k0_pay2, k0_pay5, named_rN]
    rfl
  · unfold newC1 Data.c1 shift scale eps; rw [hs, hq]
    pointwise [k0_pay1, k0_pay2, k0_pay5, named_rN]
    rfl

theorem fold2_new (h : Stat2 P Q W U G 8 X7) : Fold2 P Q W U G (newW2 U G X7) (newC2 G X7) := by
  intro o
  have hs : (∑ b, (netOf P Q W U G).s2 o b) = X7 (ix2 o 0) := ((h o).1.trans (part_all _)).symm
  have hq : (∑ b, (netOf P Q W U G).q2 o b) = X7 (ix2 o 1) := ((h o).2.trans (part_all _)).symm
  refine ⟨fun k => ?_, ?_⟩
  · unfold newW2 Data.a2 scale eps; rw [hs, hq]
    pointwise [k0_pay8, k0_pay6, k0_pay7, k0_pay9, named_rN]
    rfl
  · unfold newC2 Data.c2 shift scale eps; rw [hs, hq]
    pointwise [k0_pay6, k0_pay7, k0_pay9, named_rN]
    rfl

theorem out_new (h : Stat3 P Q W U G 8 X8) (hE : Ext P Q W U G 8 X9 X10) (o : Fin 64) (u : Fin 8) :
    outNew G X8 X9 X10 (ix2 o u) = (netOf P Q W U G).out u o := by
  have hs : (∑ b, (netOf P Q W U G).s3 o b) = X8 (ix2 o 0) := ((h o).1.trans (part_all _)).symm
  have hq : (∑ b, (netOf P Q W U G).q3 o b) = X8 (ix2 o 1) := ((h o).2.trans (part_all _)).symm
  have e9 : X9 (ix2 o u) = (netOf P Q W U G).mx o u := ((hE o u).1).trans (if_pos u.isLt)
  have e10 : X10 (ix2 o u) = (netOf P Q W U G).mn o u := ((hE o u).2).trans (if_pos u.isLt)
  unfold outNew Data.out Data.a3 Data.c3 shift scale eps; rw [hs, hq, ← e9, ← e10]
  pointwise [k0_pay14, named_rN]
  rfl

end Cert.KernelIdeal.Hand

end
-- ==== Proof.Track.lean ====
/-
  The kernel's run, point by point: where each point's blocks lie, what the running buffers hold before it, and that the body keeps it so.
-/
module

public import proofs.«01_k».proof.Proof.Body
public import proofs.«01_k».proof.Proof.Holds
public import proofs.«01_k».proof.Proof.KernelIdealFrame
public import Idealize.ShloMosaic.Lib.Pipeline.ValueKit.Geometry

@[expose] public section

set_option maxRecDepth 16384

noncomputable section

namespace Cert.KernelIdeal.Hand

open Cert.KernelIdeal.Gen Idealize.ShloMosaic.View
open Idealize.ShloMosaic Idealize.ShloMosaic.TcCoe Idealize.ShloMosaic.Tactic Cert.Net
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ
variable (m : (ℓ : Loc nD τ sig) → Buf (Elt Ideal) ℓ)

/-! ### The grid -/

theorem coords_1 : ∀ t : Fin grid0.N, (grid0.coords t 1).val = t.val % 8 := by decide +kernel
theorem cond1 : ∀ t : Fin grid0.N, Scalar.cmpi .ne (Scalar.extui (Scalar.andi (Scalar.cmpi .eq (BitVec.ofNat 32 (grid0.coords t 0).val) 1#32) (Scalar.cmpi .eq (BitVec.ofNat 32 (grid0.coords t 1).val) 0#32)) : BitVec 32) 0#32 = 1#1 ↔ t.val = 8 := by
  decide +kernel
theorem cond2 : ∀ t : Fin grid0.N, Scalar.cmpi .ne (Scalar.extui (Scalar.andi (Scalar.cmpi .eq (BitVec.ofNat 32 (grid0.coords t 0).val) 2#32) (Scalar.cmpi .eq (BitVec.ofNat 32 (grid0.coords t 1).val) 0#32)) : BitVec 32) 0#32 = 1#1 ↔ t.val = 16 := by
  decide +kernel
theorem cond3 : ∀ t : Fin grid0.N, Scalar.cmpi .ne (Scalar.extui (Scalar.cmpi .eq (BitVec.ofNat 32 (grid0.coords t 0).val) 0#32) : BitVec 32) 0#32 = 1#1 ↔ t.val < 8 := by
  decide +kernel
theorem cond4 : ∀ t : Fin grid0.N, Scalar.cmpi .ne (Scalar.extui (Scalar.cmpi .eq (BitVec.ofNat 32 (grid0.coords t 0).val) 1#32) : BitVec 32) 0#32 = 1#1 ↔ 8 ≤ t.val ∧ t.val < 16 := by
  decide +kernel
theorem cond5 : ∀ t : Fin grid0.N, k0_cond5 (grid0.coords t) = 1#1 ↔ 16 ≤ t.val := by decide +kernel
theorem cond6 : ∀ t : Fin grid0.N, k0_cond6 (grid0.coords t) = 1#1 ↔ t.val % 8 = 7 := by decide +kernel

/-- The cloud point `t` works on. -/
def cloud (t : Fin grid0.N) : Fin 8 := ⟨t.val % 8, Nat.mod_lt _ (by decide)⟩

/-! ### The blocks -/

theorem index_0 : ∀ t : Fin grid0.N, win0_0.index t = ![t.val % 8, 0, 0] := by decide +kernel
theorem xsize_0 : ∀ t : Fin grid0.N, ∀ a, win0_0.xsize (grid0.coords t) a = (![1, 3, 100000] : Fin 3 → ℕ) a := by decide +kernel

/-- Window 0's buffer after a fetch holds the point's cloud on the columns that exist. -/
theorem fill_0 (c : Dev nD) (t : Fin cfg0.N) (d) (k : Fin 3) (n : Fin 100000) :
    win0_0.fill (grid0.coords t) d (iblk m c 0 t) (ix3 0 k ⟨n.val, by omega⟩) = V m c main_arg0 (ix3 (cloud t) k n) := by
  let y : (win0_0.xblock (grid0.coords t)).Idx := fun a => ⟨(ix3 (0 : Fin 1) k n a).val, by
    show _ < win0_0.xsize (grid0.coords t) a
    rw [xsize_0 t a]; fin_cases a
    · exact (0 : Fin 1).isLt
    · exact k.isLt
    · exact n.isLt⟩
  have hy : (ix3 0 k ⟨n.val, by omega⟩ : S1x3x100352.Idx) = win0_0.xinj (grid0.coords t) y := by
    funext a; apply Fin.ext; fin_cases a <;> rfl
  rw [hy, Window.fill_xinj]
  change V m c main_arg0 ((win0_0.rect t).emb y) = _
  congr 1; funext a; apply Fin.ext
  rw [Rect.emb_apply]
  change win0_0.kind.off (win0_0.index t a) (win0_0.size a) + 1 * (y a).val = _
  rw [index_0 t]
  fin_cases a
  · change t.val % 8 * 1 + 1 * 0 = t.val % 8; omega
  · change 0 * 3 + 1 * k.val = k.val; omega
  · change 0 * 100352 + 1 * n.val = n.val; omega

theorem index_1 : ∀ t : Fin grid0.N, win0_1.index t = ![t.val % 8, 0, 0] := by decide +kernel
theorem xsize_1 : ∀ t : Fin grid0.N, ∀ a, win0_1.xsize (grid0.coords t) a = (![1, 16, 100000] : Fin 3 → ℕ) a := by decide +kernel

/-- Window 1's buffer after a fetch holds the point's cloud on the columns that exist. -/
theorem fill_1 (c : Dev nD) (t : Fin cfg0.N) (d) (k : Fin 16) (n : Fin 100000) :
    win0_1.fill (grid0.coords t) d (iblk m c 1 t) (ix3 0 k ⟨n.val, by omega⟩) = V m c main_arg1 (ix3 (cloud t) k n) := by
  let y : (win0_1.xblock (grid0.coords t)).Idx := fun a => ⟨(ix3 (0 : Fin 1) k n a).val, by
    show _ < win0_1.xsize (grid0.coords t) a
    rw [xsize_1 t a]; fin_cases a
    · exact (0 : Fin 1).isLt
    · exact k.isLt
    · exact n.isLt⟩
  have hy : (ix3 0 k ⟨n.val, by omega⟩ : S1x16x100352.Idx) = win0_1.xinj (grid0.coords t) y := by
    funext a; apply Fin.ext; fin_cases a <;> rfl
  rw [hy, Window.fill_xinj]
  change V m c main_arg1 ((win0_1.rect t).emb y) = _
  congr 1; funext a; apply Fin.ext
  rw [Rect.emb_apply]
  change win0_1.kind.off (win0_1.index t a) (win0_1.size a) + 1 * (y a).val = _
  rw [index_1 t]
  fin_cases a
  · change t.val % 8 * 1 + 1 * 0 = t.val % 8; omega
  · change 0 * 16 + 1 * k.val = k.val; omega
  · change 0 * 100352 + 1 * n.val = n.val; omega

theorem index_2 : ∀ t : Fin grid0.N, win0_2.index t = ![0, 0] := by decide +kernel

/-- Window 2's block is its whole array. -/
theorem iblk_2 (c : Dev nD) (t : Fin cfg0.N) : iblk m c 2 t = V m c main_arg2 := by
  funext y
  change V m c main_arg2 ((win0_2.rect t).emb y) = _
  congr 1; funext a; apply Fin.ext
  rw [Rect.emb_apply]
  change win0_2.kind.off (win0_2.index t a) (win0_2.size a) + 1 * (y a).val = _
  rw [index_2 t]
  fin_cases a
  · change 0 * 32 + 1 * (y 0).val = (y 0).val; omega
  · change 0 * 19 + 1 * (y 1).val = (y 1).val; omega

theorem index_3 : ∀ t : Fin grid0.N, win0_3.index t = ![0, 0] := by decide +kernel

/-- Window 3's block is its whole array. -/
theorem iblk_3 (c : Dev nD) (t : Fin cfg0.N) : iblk m c 3 t = V m c main_v0 := by
  funext y
  change V m c main_v0 ((win0_3.rect t).emb y) = _
  congr 1; funext a; apply Fin.ext
  rw [Rect.emb_apply]
  change win0_3.kind.off (win0_3.index t a) (win0_3.size a) + 1 * (y a).val = _
  rw [index_3 t]
  fin_cases a
  · change 0 * 96 + 1 * (y 0).val = (y 0).val; omega
  · change 0 * 32 + 1 * (y 1).val = (y 1).val; omega

theorem index_4 : ∀ t : Fin grid0.N, win0_4.index t = ![0, 0] := by decide +kernel

/-- Window 4's block is its whole array. -/
theorem iblk_4 (c : Dev nD) (t : Fin cfg0.N) : iblk m c 4 t = V m c main_v2 := by
  funext y
  change V m c main_v2 ((win0_4.rect t).emb y) = _
  congr 1; funext a; apply Fin.ext
  rw [Rect.emb_apply]
  change win0_4.kind.off (win0_4.index t a) (win0_4.size a) + 1 * (y a).val = _
  rw [index_4 t]
  fin_cases a
  · change 0 * 256 + 1 * (y 0).val = (y 0).val; omega
  · change 0 * 1 + 1 * (y 1).val = (y 1).val; omega

/-! ### What the running buffers hold -/

/-- The ten running buffers' contents. -/
structure St where
  x6 : Vec Ideal S32x2 .f32
  x7 : Vec Ideal S32x2 .f32
  x8 : Vec Ideal S64x2 .f32
  x9 : Vec Ideal S64x8 .f32
  x10 : Vec Ideal S64x8 .f32
  x11 : Vec Ideal S32x3 .f32
  x12 : Vec Ideal S32x16 .f32
  x13 : Vec Ideal S32x1 .f32
  x14 : Vec Ideal S32x32 .f32
  x15 : Vec Ideal S32x1 .f32

/-- The ten running buffers, owned at contents `S`. -/
def ownsSt (c : Dev nD) (S : St) : sProp 𝕄 :=
  iprop(owns (c : Thread nD τ) (Memref.whole cc0_scratch0) fullShare S.x6 ∗ owns (c : Thread nD τ) (Memref.whole cc0_scratch1) fullShare S.x7
    ∗ owns (c : Thread nD τ) (Memref.whole cc0_scratch2) fullShare S.x8 ∗ owns (c : Thread nD τ) (Memref.whole cc0_scratch3) fullShare S.x9
    ∗ owns (c : Thread nD τ) (Memref.whole cc0_scratch4) fullShare S.x10 ∗ owns (c : Thread nD τ) (Memref.whole cc0_scratch5) fullShare S.x11
    ∗ owns (c : Thread nD τ) (Memref.whole cc0_scratch6) fullShare S.x12 ∗ owns (c : Thread nD τ) (Memref.whole cc0_scratch7) fullShare S.x13
    ∗ owns (c : Thread nD τ) (Memref.whole cc0_scratch8) fullShare S.x14 ∗ owns (c : Thread nD τ) (Memref.whole cc0_scratch9) fullShare S.x15)

section Inv

variable (P : Vec Ideal S8x3x100000 .f32) (Q : Vec Ideal S8x16x100000 .f32) (W : Vec Ideal S32x19 .f32)
  (U : Vec Ideal S96x32 .f32) (G : Vec Ideal S256x1 .f32)

/-- Before point `n`: layer 1's statistics over the clouds seen; from the second phase on, layer 1 folded and layer 2's statistics
    over the clouds seen; from the third on, layer 2 folded, layer 3's statistics and its extremes. -/
def Inv (n : ℕ) (S : St) : Prop :=
  (1 ≤ n → Stat1 P Q W U G (min n 8) S.x6) ∧
  (9 ≤ n → Fold1 P Q W U G S.x11 S.x12 S.x13 ∧ Stat2 P Q W U G (min (n - 8) 8) S.x7) ∧
  (17 ≤ n → Fold2 P Q W U G S.x14 S.x15 ∧ Stat3 P Q W U G (n - 16) S.x8 ∧ Ext P Q W U G (n - 16) S.x9 S.x10)

variable {P Q W U G} {S : St} {t : Fin grid0.N} {X0 : Vec Ideal S1x3x100352 .f32} {X1 : Vec Ideal S1x16x100352 .f32}

theorem inv_first (ht : t.val < 8) (hB : HoldsBlock P Q (cloud t) X0 X1) (h : Inv P Q W U G t.val S) :
    Inv P Q W U G (t.val + 1) { S with x6 := step1 (grid0.coords t) X0 X1 W S.x6 } := by
  have hb : (cloud t).val = t.val := Nat.mod_eq_of_lt ht
  refine ⟨fun _ => ?_, fun h9 => absurd h9 (by omega), fun h9 => absurd h9 (by omega)⟩
  have := stat1_step (W := W) (U := U) (G := G) (X6 := S.x6) (coords_1 t) hB fun h0 => by
    have := h.1 (by omega); rw [show min t.val 8 = (cloud t).val by omega] at this; exact this
  rw [show min (t.val + 1) 8 = (cloud t).val + 1 by omega]; exact this

theorem inv_second (ht : 8 ≤ t.val ∧ t.val < 16) (hB : HoldsBlock P Q (cloud t) X0 X1) (h : Inv P Q W U G t.val S)
    {a : Vec Ideal S32x3 .f32} {b : Vec Ideal S32x16 .f32} {d : Vec Ideal S32x1 .f32} (hF : Fold1 P Q W U G a b d) :
    Inv P Q W U G (t.val + 1) { S with x7 := step2 (grid0.coords t) X0 X1 U S.x7 a b d, x11 := a, x12 := b, x13 := d } := by
  have hb : (cloud t).val = t.val - 8 := by show t.val % 8 = _; omega
  refine ⟨fun _ => ?_, fun _ => ⟨hF, ?_⟩, fun h9 => absurd h9 (by omega)⟩
  · have := h.1 (by omega); rw [show min t.val 8 = min (t.val + 1) 8 by omega] at this; exact this
  · have := stat2_step (X7 := S.x7) (coords_1 t) hB hF fun h0 => by
      have := (h.2.1 (by omega)).2; rw [show min (t.val - 8) 8 = (cloud t).val by omega] at this; exact this
    rw [show min (t.val + 1 - 8) 8 = (cloud t).val + 1 by omega]; exact this

theorem inv_third (ht : 16 ≤ t.val) (hB : HoldsBlock P Q (cloud t) X0 X1) (h : Inv P Q W U G t.val S)
    {a : Vec Ideal S32x32 .f32} {b : Vec Ideal S32x1 .f32} (hF : Fold2 P Q W U G a b) :
    Inv P Q W U G (t.val + 1) { S with
      x8 := step3 (grid0.coords t) X0 X1 U S.x8 S.x11 S.x12 S.x13 a b,
      x9 := stepMx (grid0.coords t) X0 X1 U S.x9 S.x11 S.x12 S.x13 a b,
      x10 := stepMn (grid0.coords t) X0 X1 U S.x10 S.x11 S.x12 S.x13 a b, x14 := a, x15 := b } := by
  have h24 : t.val < 24 := t.isLt
  have hb : (cloud t).val = t.val - 16 := by show t.val % 8 = _; omega
  have hF1 := (h.2.1 (by omega)).1
  refine ⟨fun _ => ?_, fun _ => ⟨hF1, ?_⟩, fun _ => ⟨hF, ?_, ?_⟩⟩
  · have := h.1 (by omega); rw [show min t.val 8 = min (t.val + 1) 8 by omega] at this; exact this
  · have := (h.2.1 (by omega)).2; rw [show min (t.val - 8) 8 = min (t.val + 1 - 8) 8 by omega] at this; exact this
  · have := stat3_step (X8 := S.x8) (coords_1 t) hB hF1 hF fun h0 => by
      have := (h.2.2 (by omega)).2.1; rw [show t.val - 16 = (cloud t).val by omega] at this; exact this
    rw [show t.val + 1 - 16 = (cloud t).val + 1 by omega]; exact this
  · have := ext_step (X9 := S.x9) (X10 := S.x10) (coords_1 t) hB hF1 hF fun h0 => by
      have := (h.2.2 (by omega)).2.2; rw [show t.val - 16 = (cloud t).val by omega] at this; exact this
    rw [show t.val + 1 - 16 = (cloud t).val + 1 by omega]; exact this

variable (P Q W U G) in
/-- The output array the last point leaves: the network's value, clouds along the columns. -/
def outOf : Vec Ideal S64x8 .f32 := fun j => (netOf P Q W U G).out (j 1) (j 0)

theorem out_last (h : Inv P Q W U G 24 S) : outNew G S.x8 S.x9 S.x10 = outOf P Q W U G := by
  funext j
  have hj : j = ix2 (j 0) (j 1) := by funext a; fin_cases a <;> rfl
  have h3 := h.2.2 (by omega)
  rw [hj]; exact out_new h3.2.1 h3.2.2 _ _

end Inv

/-! ### A whole load reads the buffer -/

theorem ld_S32x3 (X : Vec Ideal S32x3 .f32) : ld X r_S32x3_S32x3_0_0 = X := by
  funext j
  have hj : j = ix2 (j 0) (j 1) := by
    funext a; fin_cases a; · rfl
    · rfl
  rw [hj]; pointwise

theorem ld_S32x16 (X : Vec Ideal S32x16 .f32) : ld X r_S32x16_S32x16_0_0 = X := by
  funext j
  have hj : j = ix2 (j 0) (j 1) := by
    funext a; fin_cases a; · rfl
    · rfl
  rw [hj]; pointwise

theorem ld_S32x1 (X : Vec Ideal S32x1 .f32) : ld X r_S32x1_S32x1_0_0 = X := by
  funext j
  have hj : j = ix2 (j 0) 0 := by
    funext a; fin_cases a; · rfl
    · exact Subsingleton.elim (α := Fin 1) _ _
  rw [hj]; pointwise

theorem ld_S32x32 (X : Vec Ideal S32x32 .f32) : ld X r_S32x32_S32x32_0_0 = X := by
  funext j
  have hj : j = ix2 (j 0) (j 1) := by
    funext a; fin_cases a; · rfl
    · rfl
  rw [hj]; pointwise

end Cert.KernelIdeal.Hand
end
-- ==== Proof.Keeps.lean ====
/-
  The body keeps the running buffers' invariant at every point, whichever of its courses it takes there.
-/
module

public import proofs.«01_k».proof.Proof.Track

@[expose] public section

set_option maxRecDepth 16384

noncomputable section

namespace Cert.KernelIdeal.Hand

open Cert.KernelIdeal.Gen Idealize.ShloMosaic.View
open Idealize.ShloMosaic Idealize.ShloMosaic.TcCoe Idealize.ShloMosaic.Tactic Cert.Net
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ
variable (m : (ℓ : Loc nD τ sig) → Buf (Elt Ideal) ℓ)

/-- The invariant over the arrays the region finds on core `c`. -/
abbrev InvAt (c : Dev nD) (n : ℕ) (S : St) : Prop :=
  Inv (V m c main_arg0) (V m c main_arg1) (V m c main_arg2) (V m c main_v0) (V m c main_v2) n S
/-- The output array over the arrays the region finds on core `c`. -/
abbrev outAt (c : Dev nD) : Vec Ideal S64x8 .f32 :=
  outOf (V m c main_arg0) (V m c main_arg1) (V m c main_arg2) (V m c main_v0) (V m c main_v2)

set_option maxHeartbeats 4000000 in
/-- The body at point `t`, whichever course it takes: it keeps the invariant, and the output's buffer ends at the output array at
    the last point and unchanged before. -/
theorem body_keeps (c : Dev nD) (t : Fin cfg0.N) (X0 : Vec Ideal S1x3x100352 .f32) (X1 : Vec Ideal S1x16x100352 .f32)
    (X5 : Vec Ideal S64x8 .f32) (S : St) (hB : HoldsBlock (V m c main_arg0) (V m c main_arg1) (cloud t) X0 X1)
    (hI : InvAt m c t.val S) (R : sProp 𝕄) (K : PUnit → sProp 𝕄)
    (hK : ∀ (S' : St) (X5' : Vec Ideal S64x8 .f32), InvAt m c (t.val + 1) S' → (t.val ≠ 23 → X5' = X5) → (t.val = 23 → X5' = outAt m c) →
      iprop(owns (c : Thread nD τ) (ms0 t) fullShare X0 ∗ owns (c : Thread nD τ) (ms1 t) fullShare X1
        ∗ owns (c : Thread nD τ) (ms2 t) fullShare (V m c main_arg2) ∗ owns (c : Thread nD τ) (ms3 t) fullShare (V m c main_v0)
        ∗ owns (c : Thread nD τ) (ms4 t) fullShare (V m c main_v2) ∗ owns (c : Thread nD τ) (ms5 t) fullShare X5' ∗ ownsSt c S' ∗ R) ⊢ K ⟨⟩) :
    iprop(owns (c : Thread nD τ) (ms0 t) fullShare X0 ∗ owns (c : Thread nD τ) (ms1 t) fullShare X1
        ∗ owns (c : Thread nD τ) (ms2 t) fullShare (V m c main_arg2) ∗ owns (c : Thread nD τ) (ms3 t) fullShare (V m c main_v0)
        ∗ owns (c : Thread nD τ) (ms4 t) fullShare (V m c main_v2) ∗ owns (c : Thread nD τ) (ms5 t) fullShare X5 ∗ ownsSt c S ∗ R)
      ⊢ wp frame (wpE (defs₀ (F := Ideal)) Variants.none c none) Set.univ (bodyAt0 t) K := by
  have h24 : t.val < 24 := t.isLt
  unfold bodyAt0 ownsSt
  unfold ownsSt at hK
  iintro ⟨H0, H1, H2, H3, H4, H5, ⟨H6, H7, H8, H9, H10, H11, H12, H13, H14, H15⟩, HR⟩
  rcases (by omega : t.val < 8 ∨ t.val = 8 ∨ (8 < t.val ∧ t.val < 16) ∨ t.val = 16 ∨ (16 < t.val ∧ t.val < 23) ∨ t.val = 23) with ht | ht | ht | ht | ht | ht
  · have hS := inv_first ht hB hI
    iapply (run_first c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 (mt (cond1 t).mp (by omega)) (mt (cond2 t).mp (by omega)) ((cond3 t).mpr (by omega)) (mt (cond4 t).mp (by omega)) (mt (cond5 t).mp (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro ⟨H0, H1, H2, H3, H4, H5, H6, H7, H8, H9, H10, H11, H12, H13, H14, H15⟩
    iapply (hK _ _ hS (fun _ => rfl) (fun h => absurd h (by omega)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR
  · have hS := inv_second (by omega) hB hI (fold1_new (show Stat1 _ _ _ _ _ 8 S.x6 by have := hI.1 (by omega); rw [show min t.val 8 = 8 by omega] at this; exact this))
    iapply (run_secondStart c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 ((cond1 t).mpr (by omega)) (mt (cond2 t).mp (by omega)) (mt (cond3 t).mp (by omega)) ((cond4 t).mpr (by omega)) (mt (cond5 t).mp (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    simp only [ld_S32x3, ld_S32x16, ld_S32x1, ld_S32x32]
    iintro ⟨H0, H1, H2, H3, H4, H5, H6, H7, H8, H9, H10, H11, H12, H13, H14, H15⟩
    iapply (hK _ _ hS (fun _ => rfl) (fun h => absurd h (by omega)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR
  · have hS := inv_second (by omega) hB hI (hI.2.1 (by omega)).1
    iapply (run_second c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 (mt (cond1 t).mp (by omega)) (mt (cond2 t).mp (by omega)) (mt (cond3 t).mp (by omega)) ((cond4 t).mpr (by omega)) (mt (cond5 t).mp (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    simp only [ld_S32x3, ld_S32x16, ld_S32x1, ld_S32x32]
    iintro ⟨H0, H1, H2, H3, H4, H5, H6, H7, H8, H9, H10, H11, H12, H13, H14, H15⟩
    iapply (hK _ _ hS (fun _ => rfl) (fun h => absurd h (by omega)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR
  · have hS := inv_third (by omega) hB hI (fold2_new (show Stat2 _ _ _ _ _ 8 S.x7 by have := (hI.2.1 (by omega)).2; rw [show min (t.val - 8) 8 = 8 by omega] at this; exact this))
    iapply (run_thirdStart c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 (mt (cond1 t).mp (by omega)) ((cond2 t).mpr (by omega)) (mt (cond3 t).mp (by omega)) (mt (cond4 t).mp (by omega)) ((cond5 t).mpr (by omega)) (mt (cond6 t).mp (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    simp only [ld_S32x3, ld_S32x16, ld_S32x1, ld_S32x32]
    iintro ⟨H0, H1, H2, H3, H4, H5, H6, H7, H8, H9, H10, H11, H12, H13, H14, H15⟩
    iapply (hK _ _ hS (fun _ => rfl) (fun h => absurd h (by omega)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR
  · have hS := inv_third (by omega) hB hI (hI.2.2 (by omega)).1
    iapply (run_third c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 (mt (cond1 t).mp (by omega)) (mt (cond2 t).mp (by omega)) (mt (cond3 t).mp (by omega)) (mt (cond4 t).mp (by omega)) ((cond5 t).mpr (by omega)) (mt (cond6 t).mp (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    simp only [ld_S32x3, ld_S32x16, ld_S32x1, ld_S32x32]
    iintro ⟨H0, H1, H2, H3, H4, H5, H6, H7, H8, H9, H10, H11, H12, H13, H14, H15⟩
    iapply (hK _ _ hS (fun _ => rfl) (fun h => absurd h (by omega)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR
  · have hS := inv_third (by omega) hB hI (hI.2.2 (by omega)).1
    iapply (run_thirdEnd c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) X0 X1 (V m c main_arg2) (V m c main_v0) (V m c main_v2) X5 S.x6 S.x7 S.x8 S.x9 S.x10 S.x11 S.x12 S.x13 S.x14 S.x15 (mt (cond1 t).mp (by omega)) (mt (cond2 t).mp (by omega)) (mt (cond3 t).mp (by omega)) (mt (cond4 t).mp (by omega)) ((cond5 t).mpr (by omega)) ((cond6 t).mpr (by omega)) K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    simp only [ld_S32x3, ld_S32x16, ld_S32x1, ld_S32x32]
    iintro ⟨H0, H1, H2, H3, H4, H5, H6, H7, H8, H9, H10, H11, H12, H13, H14, H15⟩
    iapply (hK _ _ hS (fun h => absurd ht h) (fun _ => out_last (by rw [ht] at hS; exact hS)))
    isplitl [H0]; · iexact H0
    isplitl [H1]; · iexact H1
    isplitl [H2]; · iexact H2
    isplitl [H3]; · iexact H3
    isplitl [H4]; · iexact H4
    isplitl [H5]; · iexact H5
    isplitr [HR]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HR

end Cert.KernelIdeal.Hand
end
-- ==== Proof.Region.lean ====
/-
  The kernel's run with its result: the body keeps the running buffers' invariant at every point, so the run leaves the output
  array holding the network's value.
-/
module

public import proofs.«01_k».proof.Proof.Keeps

@[expose] public section

set_option maxRecDepth 16384

noncomputable section

namespace Cert.KernelIdeal.Hand

open Cert.KernelIdeal.Gen Idealize.ShloMosaic.View
open Idealize.ShloMosaic Idealize.ShloMosaic.TcCoe Idealize.ShloMosaic.Tactic Cert.Net
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ
variable (m : (ℓ : Loc nD τ sig) → Buf (Elt Ideal) ℓ) (ρ : Dev nD → PrngReg)

/-! ### The proof data -/

/-- The invariant between points: the running buffers at contents the invariant describes, the generator register at some state. -/
def Phi (c : Dev nD) (n : ℕ) : sProp 𝕄 := iprop((∃ S, ⌜InvAt m c n S⌝ ∗ ownsSt c S) ∗ ∃ r, prngReg c r)

/-- The proof data on core `c`: the arrays as the region finds them, the blocks on the columns that exist, the output's buffer at
    the output array, the invariant, full shares, nothing owed. -/
def vdats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => outAt m c
  Φ n := Phi m c n.val
  q _ := fullShare
  owed _ := 0

theorem vA_eq (c : Dev nD) (w : Fin cfg0.W) : (vdats m 0 c).A w = V m c (Pipeline.arrRef spec0 w) := by dsimp only [vdats]

theorem before_0 (c : Dev nD) (t : Fin cfg0.N) (d) :
    (vdats m 0 c).before (0 : Fin 6) t d = win0_0.fill (grid0.coords t) d (iblk m c 0 t) := by
  unfold Dat.before; rw [if_pos (fetch0_0 t)]; rfl
theorem before_1 (c : Dev nD) (t : Fin cfg0.N) (d) :
    (vdats m 0 c).before (1 : Fin 6) t d = win0_1.fill (grid0.coords t) d (iblk m c 1 t) := by
  unfold Dat.before; rw [if_pos (fetch0_1 t)]; rfl
theorem before_2 (c : Dev nD) (t : Fin cfg0.N) (d) : (vdats m 0 c).before (2 : Fin 6) t d = V m c main_arg2 :=
  (before0_2_of m (vdats m 0 c) (vA_eq m c _) (fun _ => rfl) t d).trans (iblk_2 m c t)
theorem before_3 (c : Dev nD) (t : Fin cfg0.N) (d) : (vdats m 0 c).before (3 : Fin 6) t d = V m c main_v0 :=
  (before0_3_of m (vdats m 0 c) (vA_eq m c _) (fun _ => rfl) t d).trans (iblk_3 m c t)
theorem before_4 (c : Dev nD) (t : Fin cfg0.N) (d) : (vdats m 0 c).before (4 : Fin 6) t d = V m c main_v2 :=
  (before0_4_of m (vdats m 0 c) (vA_eq m c _) (fun _ => rfl) t d).trans (iblk_4 m c t)

theorem idle_5 : ∀ t : Fin grid0.N, idle0 5 (grid0.coords t) = true ↔ t.val ≠ 23 := by decide +kernel

/-- The output's staging buffer after point `t`: untouched before the last point, at the output array there. -/
def left5 (c : Dev nD) (t : Fin cfg0.N) : sProp 𝕄 :=
  match cfg0.idle 5 (grid0.coords t) with
  | true =>
    match (cfg0.win 5).flush t with
    | false => iprop(∃ d, owns (c : Thread nD τ) (ms5 t) fullShare ((vdats m 0 c).before 5 t d))
    | true => owns (c : Thread nD τ) (ms5 t) fullShare (outAt m c)
  | false => owns (c : Thread nD τ) (ms5 t) fullShare (outAt m c)

theorem left5_idle (c : Dev nD) (t : Fin cfg0.N) (h : t.val ≠ 23) :
    left5 m c t = iprop(∃ d, owns (c : Thread nD τ) (ms5 t) fullShare ((vdats m 0 c).before 5 t d)) := by
  have h24 : t.val < 24 := t.isLt
  unfold left5
  rw [show cfg0.idle 5 (grid0.coords t) = true from (idle_5 t).mpr h,
    show (cfg0.win 5).flush t = false from Bool.eq_false_iff.mpr (mt (flush0_5 t).mp (by omega))]
theorem left5_last (c : Dev nD) (t : Fin cfg0.N) (h : t.val = 23) :
    left5 m c t = owns (c : Thread nD τ) (ms5 t) fullShare (outAt m c) := by
  unfold left5
  rw [show cfg0.idle 5 (grid0.coords t) = false from Bool.eq_false_iff.mpr fun h' => (idle_5 t).mp h' h]

set_option maxHeartbeats 1600000 in
/-- The body's obligation at point `t`, window by window. -/
theorem vsound_body (c : Dev nD) (t : Fin cfg0.N) :
    iprop(Phi m c t.val ∗ (vdats m 0 c).owesAt () t.castSucc
        ∗ (∃ d, owns (c : Thread nD τ) (ms0 t) fullShare ((vdats m 0 c).before 0 t d))
        ∗ (∃ d, owns (c : Thread nD τ) (ms1 t) fullShare ((vdats m 0 c).before 1 t d))
        ∗ (∃ d, owns (c : Thread nD τ) (ms2 t) fullShare ((vdats m 0 c).before 2 t d))
        ∗ (∃ d, owns (c : Thread nD τ) (ms3 t) fullShare ((vdats m 0 c).before 3 t d))
        ∗ (∃ d, owns (c : Thread nD τ) (ms4 t) fullShare ((vdats m 0 c).before 4 t d))
        ∗ (∃ d, owns (c : Thread nD τ) (ms5 t) fullShare ((vdats m 0 c).before 5 t d)))
      ⊢ wp frame (wpE (defs₀ (F := Ideal)) Variants.none c none) Set.univ (bodyAt0 t) (fun _ =>
        iprop(Phi m c (t.val + 1) ∗ (vdats m 0 c).owesAt () t.castSucc
        ∗ (∃ d, owns (c : Thread nD τ) (ms0 t) fullShare (win0_0.fill (grid0.coords t) d (win0_0.cut (grid0.coords t) ((vdats m 0 c).after 0 t))))
        ∗ (∃ d, owns (c : Thread nD τ) (ms1 t) fullShare (win0_1.fill (grid0.coords t) d (win0_1.cut (grid0.coords t) ((vdats m 0 c).after 1 t))))
        ∗ owns (c : Thread nD τ) (ms2 t) fullShare ((vdats m 0 c).after 2 t)
        ∗ owns (c : Thread nD τ) (ms3 t) fullShare ((vdats m 0 c).after 3 t)
        ∗ owns (c : Thread nD τ) (ms4 t) fullShare ((vdats m 0 c).after 4 t)
        ∗ left5 m c t)) := by
  have e0 : win0_0.cut (grid0.coords t) ((vdats m 0 c).after 0 t) = iblk m c 0 t := win0_0.cut_fill _ _ _
  have e1 : win0_1.cut (grid0.coords t) ((vdats m 0 c).after 1 t) = iblk m c 1 t := win0_1.cut_fill _ _ _
  have e2 : (vdats m 0 c).after 2 t = V m c main_arg2 := iblk_2 m c t
  have e3 : (vdats m 0 c).after 3 t = V m c main_v0 := iblk_3 m c t
  have e4 : (vdats m 0 c).after 4 t = V m c main_v2 := iblk_4 m c t
  rw [e0, e1, e2, e3, e4]
  simp only [before_0, before_1, before_2, before_3, before_4]
  unfold Phi
  iintro ⟨⟨⟨%S, %hI, HS⟩, Hg⟩, HO, ⟨%d0, H0⟩, ⟨%d1, H1⟩, ⟨%d2, H2⟩, ⟨%d3, H3⟩, ⟨%d4, H4⟩, ⟨%d5, H5⟩⟩
  iapply (body_keeps m c t _ _ _ S ⟨fill_0 m c t d0, fill_1 m c t d1⟩ hI
    iprop((∃ r, prngReg c r) ∗ (vdats m 0 c).owesAt () t.castSucc) _ ?_)
  · intro S' X5' hS hk hl
    iintro ⟨H0, H1, H2, H3, H4, H5, HS, Hg, HO⟩
    isplitl [Hg HS]
    · isplitr [Hg]
      · iexists S'; isplitr; · ipureintro; exact hS
        iexact HS
      iexact Hg
    isplitl [HO]; · iexact HO
    isplitl [H0]; · iexists d0; iexact H0
    isplitl [H1]; · iexists d1; iexact H1
    isplitl [H2]; · iexact H2
    isplitl [H3]; · iexact H3
    isplitl [H4]; · iexact H4
    by_cases h : t.val = 23
    · rw [left5_last m c t h, hl h]; iexact H5
    · rw [left5_idle m c t h, hk h]; iexists d5; iexact H5
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [Hg]; · iexact Hg
  iexact HO

/-- The pipeline's body obligation. -/
theorem vbody_obligation (c : Dev nD) :
    BodyObligationLoose (vdats m 0 c) (defs₀ (F := Ideal)) Variants.none () Set.univ := fun t => by
  rw [bigSep_W0, bigSep_W0, defs₀_row]
  exact triple_restated (vsound_body m c t) rfl .rfl fun _ => .rfl

theorem phi_in (c : Dev nD) : Pipeline.ΦA spec0 c ⊢ (vdats m 0 c).Φ 0 := by
  show _ ⊢ Phi m c 0
  rw [PhiA_eq]; unfold Phi ownsSt
  iintro ⟨⟨⟨%x0, S0⟩, ⟨%x1, S1⟩, ⟨%x2, S2⟩, ⟨%x3, S3⟩, ⟨%x4, S4⟩, ⟨%x5, S5⟩, ⟨%x6, S6⟩, ⟨%x7, S7⟩, ⟨%x8, S8⟩, ⟨%x9, S9⟩⟩, Hg⟩
  isplitr [Hg]
  · iexists (⟨x0, x1, x2, x3, x4, x5, x6, x7, x8, x9⟩ : St)
    isplitr
    · ipureintro
      exact ⟨fun h => absurd h (by omega), fun h => absurd h (by omega), fun h => absurd h (by omega)⟩
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact Hg

theorem phi_out (c : Dev nD) : (vdats m 0 c).Φ (Fin.last cfg0.N) ⊢ Pipeline.ΦA spec0 c := by
  show Phi m c _ ⊢ _
  rw [PhiA_eq]; unfold Phi ownsSt
  iintro ⟨⟨%S, %hS, S0, S1, S2, S3, S4, S5, S6, S7, S8, S9⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  iexact Hg

/-- After the run the output array holds the network's value. -/
theorem final_out (c : Dev nD) : (vdats m 0 c).arrAt 5 cfg0.N = outAt m c :=
  (vdats m 0 c).arrAt_eq_of_after_last 5 (⟨23, by decide⟩ : Fin grid0.N) (by decide +kernel) _ fun j => rfl

set_option backward.isDefEq.respectTransparency.types false in
/-- The run of @main: the pipeline's arrays, and what the host's lines after the region make of them. -/
theorem vrun_main :
    θ_run defs (onTc (τ := τ) (main (F := Ideal))) (s₀ m ρ)
      (fun r => Pipeline.FramePost cfgs (vdats m) (0 : Fin 1) (Pipeline.afterTail₀ cfgs (vdats m) 0 (V0 m) [hostOps1]) r ∧ r.2.sem = fun _ => 0) :=
  Pipeline.θ_run_frame_around_track cfgs (vdats m) (0 : Fin 1) launch0 defs₀ Variants.none m ρ main
    (hbody := fun c => vbody_obligation m c) (hshare := fun c => (vdats m 0 c).share_full fun _ => rfl)
    (howed := fun _ _ => rfl) (V₀ := V0 m) (opss := [hostOps1]) sfx_sub sfx_fresh sfx_keeps
    (hmain := hmain m Variants.none) (hA := vA_eq m) (hin := phi_in m) (hout := phi_out m)
    (Q' := _) (hQ' := fun _ h => h)

end Cert.KernelIdeal.Hand
end
-- ==== Proof.Output.lean ====
/-
  What the idealized kernel's program makes of its arguments: the host's lines before the region stack the weights and the scales,
  those after it transpose the output array; so its second result is the network's value over the arguments and its first is zero.
-/
module

public import proofs.«01_k».proof.Proof.Region

@[expose] public section

set_option maxRecDepth 16384

noncomputable section

namespace Cert.KernelIdeal.Hand

open Cert.KernelIdeal.Gen
open Idealize.ShloMosaic Idealize.ShloMosaic.TcCoe Idealize.ShloMosaic.Tactic Cert.Net

variable (m : (ℓ : Loc nD τ sig) → Buf (Elt Ideal) ℓ) (ρ : Dev nD → PrngReg)

/-- The network the fourteen arguments spell. -/
def dataOf (x0 : Vec Ideal S8x3x100000 .f32) (x1 : Vec Ideal S8x16x100000 .f32) (x2 : Vec Ideal S32x19 .f32)
    (x4 x5 : Vec Ideal S32 .f32) (x6 : Vec Ideal S32x32 .f32) (x8 x9 : Vec Ideal S32 .f32) (x10 : Vec Ideal S64x32 .f32)
    (x12 x13 : Vec Ideal S64 .f32) : Data where
  pos b k n := x0 (ix3 b k n)
  feat b k n := x1 (ix3 b k n)
  w1 o k := x2 (ix2 o k)
  w2 o k := x6 (ix2 o k)
  w3 o k := x10 (ix2 o k)
  g1 o := x4 (ix1 o)
  be1 o := x5 (ix1 o)
  g2 o := x8 (ix1 o)
  be2 o := x9 (ix1 o)
  g3 o := x12 (ix1 o)
  be3 o := x13 (ix1 o)

/-- The stacked weights of layers 2 and 3. -/
theorem V_main_v0 (c : Dev nD) : V m c main_v0 = concatenate S96x32 0 [⟨S32x32, (m ((c : Thread nD τ).loc main_arg6) : Vec Ideal S32x32 .f32)⟩,
    ⟨S64x32, (m ((c : Thread nD τ).loc main_arg10) : Vec Ideal S64x32 .f32)⟩] concatenates_S32x32_S64x32_S96x32_d0 := by
  change StableHlo.after (List.flatten [hostOps0]) _ (Proc.devRef .tc main_v0) = _
  simp only [hostOps0, List.flatten_cons, List.flatten_nil, List.append_nil]
  after_results_simp
  all_goals rfl

/-- The stacked scales and offsets. -/
theorem V_main_v2 (c : Dev nD) : V m c main_v2 = broadcastInDim S256x1 ![0] bcast_S256_S256x1_0
    (concatenate S256 0 [⟨S32, (m ((c : Thread nD τ).loc main_arg4) : Vec Ideal S32 .f32)⟩, ⟨S32, (m ((c : Thread nD τ).loc main_arg5) : Vec Ideal S32 .f32)⟩,
      ⟨S32, (m ((c : Thread nD τ).loc main_arg8) : Vec Ideal S32 .f32)⟩, ⟨S32, (m ((c : Thread nD τ).loc main_arg9) : Vec Ideal S32 .f32)⟩,
      ⟨S64, (m ((c : Thread nD τ).loc main_arg12) : Vec Ideal S64 .f32)⟩, ⟨S64, (m ((c : Thread nD τ).loc main_arg13) : Vec Ideal S64 .f32)⟩]
      concatenates_S32_S32_S32_S32_S64_S64_S256_d0) := by
  change StableHlo.after (List.flatten [hostOps0]) _ (Proc.devRef .tc main_v2) = _
  simp only [hostOps0, List.flatten_cons, List.flatten_nil, List.append_nil]
  after_results_simp
  all_goals rfl

/-- The second result after the host's last lines. -/
theorem W_main_v5 (c : Dev nD) : Pipeline.afterTail₀ cfgs (vdats m) 0 (V0 m) [hostOps1] c main_v5
    = broadcastInDim S8x64x1 ![0, 1] bcast_S8x64_S8x64x1_0_1 (transpose S8x64 [1, 0] (outAt m c) transposes_S64x8_S8x64_1_0) := by
  unfold Pipeline.afterTail₀
  simp only [hostOps1, List.flatten_cons, List.flatten_nil, List.append_nil]
  after_results_simp
  refine congrArg (fun x => broadcastInDim S8x64x1 ![0, 1] bcast_S8x64_S8x64x1_0_1 (transpose S8x64 [1, 0] x transposes_S64x8_S8x64_1_0)) ?_
  exact (Pipeline.withArrays_arr spec0 launch0.win.arr_inj c (V0 m c) (fun w => (vdats m 0 c).arrAt w cfg0.N) 5).trans (final_out m c)

/-- The first result. -/
theorem W_main_v6 (c : Dev nD) : Pipeline.afterTail₀ cfgs (vdats m) 0 (V0 m) [hostOps1] c main_v6
    = broadcastInDim S8x3x1 ![] bcast_S_S8x3x1 (constant (F := Ideal) S_ .f32 0x00000000#32) := by
  unfold Pipeline.afterTail₀
  simp only [hostOps1, List.flatten_cons, List.flatten_nil, List.append_nil]
  after_results_simp

section Read
variable (x0 : Vec Ideal S8x3x100000 .f32) (x1 : Vec Ideal S8x16x100000 .f32) (x2 : Vec Ideal S32x19 .f32)
    (x4 x5 : Vec Ideal S32 .f32) (x6 : Vec Ideal S32x32 .f32) (x8 x9 : Vec Ideal S32 .f32) (x10 : Vec Ideal S64x32 .f32)
    (x12 x13 : Vec Ideal S64 .f32)

theorem stackW_lo (o : Fin 32) (k : Fin 32) : concatenate S96x32 0 [⟨S32x32, x6⟩, ⟨S64x32, x10⟩] concatenates_S32x32_S64x32_S96x32_d0
    (ix2 ⟨o.val, by omega⟩ k) = x6 (ix2 o k) := by
  pointwise
theorem stackW_hi (o : Fin 64) (k : Fin 32) : concatenate S96x32 0 [⟨S32x32, x6⟩, ⟨S64x32, x10⟩] concatenates_S32x32_S64x32_S96x32_d0
    (ix2 ⟨32 + o.val, by omega⟩ k) = x10 (ix2 o k) := by
  pointwise
theorem stackG_0 (o : Fin 32) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨o.val, by omega⟩ 0) = x4 (ix1 o) := by
  pointwise
theorem stackG_1 (o : Fin 32) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨32 + o.val, by omega⟩ 0) = x5 (ix1 o) := by
  pointwise
theorem stackG_2 (o : Fin 32) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨64 + o.val, by omega⟩ 0) = x8 (ix1 o) := by
  pointwise
  rw [dif_neg (by omega), dif_neg (by omega), dif_pos (by omega)]
  exact congrArg (fun u => x8 (ix1 u)) (Fin.ext (show 64 + o.val - 32 - 32 = o.val by omega))
theorem stackG_3 (o : Fin 32) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨96 + o.val, by omega⟩ 0) = x9 (ix1 o) := by
  pointwise
  rw [dif_neg (by omega), dif_neg (by omega), dif_neg (by omega), dif_pos (by omega)]
  exact congrArg (fun u => x9 (ix1 u)) (Fin.ext (show 96 + o.val - 32 - 32 - 32 = o.val by omega))
theorem stackG_4 (o : Fin 64) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨128 + o.val, by omega⟩ 0) = x12 (ix1 o) := by
  pointwise
  rw [dif_neg (by omega), dif_neg (by omega), dif_neg (by omega), dif_neg (by omega), dif_pos (by omega)]
  exact congrArg (fun u => x12 (ix1 u)) (Fin.ext (show 128 + o.val - 32 - 32 - 32 - 32 = o.val by omega))
theorem stackG_5 (o : Fin 64) : broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0) (ix2 ⟨192 + o.val, by omega⟩ 0) = x13 (ix1 o) := by
  pointwise
  rw [dif_neg (by omega), dif_neg (by omega), dif_neg (by omega), dif_neg (by omega), dif_neg (by omega)]
  exact congrArg (fun u => x13 (ix1 u)) (Fin.ext (show 192 + o.val - 32 - 32 - 32 - 32 - 64 = o.val by omega))

/-- The network over the stacked operands is the network over the arguments. -/
theorem netOf_stacked : netOf x0 x1 x2 (concatenate S96x32 0 [⟨S32x32, x6⟩, ⟨S64x32, x10⟩] concatenates_S32x32_S64x32_S96x32_d0)
    (broadcastInDim S256x1 ![0] bcast_S256_S256x1_0 (concatenate S256 0 [⟨S32, x4⟩, ⟨S32, x5⟩, ⟨S32, x8⟩, ⟨S32, x9⟩, ⟨S64, x12⟩, ⟨S64, x13⟩]
      concatenates_S32_S32_S32_S32_S64_S64_S256_d0)) = dataOf x0 x1 x2 x4 x5 x6 x8 x9 x10 x12 x13 := by
  unfold netOf dataOf
  congr 1
  · funext o k; exact stackW_lo x6 x10 o k
  · funext o k; exact stackW_hi x6 x10 o k
  · funext o; exact stackG_0 x4 x5 x8 x9 x12 x13 o
  · funext o; exact stackG_1 x4 x5 x8 x9 x12 x13 o
  · funext o; exact stackG_2 x4 x5 x8 x9 x12 x13 o
  · funext o; exact stackG_3 x4 x5 x8 x9 x12 x13 o
  · funext o; exact stackG_4 x4 x5 x8 x9 x12 x13 o
  · funext o; exact stackG_5 x4 x5 x8 x9 x12 x13 o

end Read

/-- The second result, entry by entry. -/
theorem v5_at (c : Dev nD) (b : Fin 8) (o : Fin 64) :
    (broadcastInDim S8x64x1 ![0, 1] bcast_S8x64_S8x64x1_0_1 (transpose S8x64 [1, 0] (outAt m c) transposes_S64x8_S8x64_1_0)) (ix3 b o 0)
      = (dataOf (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg8)) (m ((c : Thread nD τ).loc main_arg9)) (m ((c : Thread nD τ).loc main_arg10))
          (m ((c : Thread nD τ).loc main_arg12)) (m ((c : Thread nD τ).loc main_arg13))).out b o := by
  pointwise
  unfold outAt outOf
  rw [V_main_v0, V_main_v2, V_main_arg0, V_main_arg1, V_main_arg2, netOf_stacked]
  rfl

/-- The run's results: the first zero, the second the network's value; the arguments end as they began. -/
theorem value_run : θ_run defs (onTc (τ := τ) (main (F := Ideal))) ⟨m, fun _ => 0, ρ⟩ (fun r => ∀ c : Dev nD,
      r.2.mem ((c.tc : Thread nD τ).loc main_v6) = broadcastInDim S8x3x1 ![] bcast_S_S8x3x1 (constant (F := Ideal) S_ .f32 0x00000000#32)
      ∧ r.2.mem ((c.tc : Thread nD τ).loc main_v5)
        = broadcastInDim S8x64x1 ![0, 1] bcast_S8x64_S8x64x1_0_1 (transpose S8x64 [1, 0] (outAt m c) transposes_S64x8_S8x64_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
    (h.1.rest_eq c main_v6 (Pipeline.mem_restRefs_of main_v6 (by decide) (by decide))).trans (W_main_v6 m c),
    (h.1.rest_eq c main_v5 (Pipeline.mem_restRefs_of main_v5 (by decide) (by decide))).trans (W_main_v5 m c),
    (h.1.in_eq c 0 rfl).trans ((vA_eq m c 0).trans (V_main_arg0 m c)),
    (h.1.in_eq c 1 rfl).trans ((vA_eq m c 1).trans (V_main_arg1 m c)),
    (h.1.in_eq c 2 rfl).trans ((vA_eq m c 2).trans (V_main_arg2 m c)),
    (h.1.rest_eq c main_arg3 (Pipeline.mem_restRefs_of main_arg3 (by decide) (by decide))).trans (W_main_arg3 m (vdats m) c),
    (h.1.rest_eq c main_arg4 (Pipeline.mem_restRefs_of main_arg4 (by decide) (by decide))).trans (W_main_arg4 m (vdats m) c),
    (h.1.rest_eq c main_arg5 (Pipeline.mem_restRefs_of main_arg5 (by decide) (by decide))).trans (W_main_arg5 m (vdats m) c),
    (h.1.rest_eq c main_arg6 (Pipeline.mem_restRefs_of main_arg6 (by decide) (by decide))).trans (W_main_arg6 m (vdats m) c),
    (h.1.rest_eq c main_arg7 (Pipeline.mem_restRefs_of main_arg7 (by decide) (by decide))).trans (W_main_arg7 m (vdats m) c),
    (h.1.rest_eq c main_arg8 (Pipeline.mem_restRefs_of main_arg8 (by decide) (by decide))).trans (W_main_arg8 m (vdats m) c),
    (h.1.rest_eq c main_arg9 (Pipeline.mem_restRefs_of main_arg9 (by decide) (by decide))).trans (W_main_arg9 m (vdats m) c),
    (h.1.rest_eq c main_arg10 (Pipeline.mem_restRefs_of main_arg10 (by decide) (by decide))).trans (W_main_arg10 m (vdats m) c),
    (h.1.rest_eq c main_arg11 (Pipeline.mem_restRefs_of main_arg11 (by decide) (by decide))).trans (W_main_arg11 m (vdats m) c),
    (h.1.rest_eq c main_arg12 (Pipeline.mem_restRefs_of main_arg12 (by decide) (by decide))).trans (W_main_arg12 m (vdats m) c),
    (h.1.rest_eq c main_arg13 (Pipeline.mem_restRefs_of main_arg13 (by decide) (by decide))).trans (W_main_arg13 m (vdats m) c)⟩) (vrun_main m ρ)

end Cert.KernelIdeal.Hand
end
-- ==== Proof.Stats.lean ====
/-
  One layer's normalization over real numbers. The linear part `u b n` at point `n` of cloud `b` has a mean and a variance
  over all the points. The kernel takes the variance as the mean of the squares less the square of the mean, and folds it
  with the layer's scale into one factor and one shift. The reference first adds the layer's offset to the linear part,
  takes the variance as the mean squared distance from the mean, subtracts the mean and divides by the root. Both agree:
  the offset leaves the distance from the mean as it is.
-/
module

public import proofs.«01_k».proof.Proof.Net

@[expose] public section

noncomputable section

namespace Cert.Stats

open Idealize.ShloMosaic Cert.Net

/-- A real sum read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The small constant as a real. -/
def e : ℝ := 10995116 / 2 ^ 40

theorem e_pos : 0 < e := by unfold e; norm_num

/-- The word under the square root denotes it. -/
theorem eps_coe : eps = (e : EReal) := by
  unfold eps e
  simp [Ideal.ofBits, Ideal.ieee, -EReal.coe_mul]
  norm_num

/-- The word of the number of points. -/
theorem count_coe : Ideal.ofBits .f32 0x49435000#32 = ((800000 : ℝ) : EReal) := by
  simp [Ideal.ofBits, Ideal.ieee, -EReal.coe_mul]
  norm_num

variable (u : Fin 8 → Fin 100000 → ℝ)

/-- A real over all the points. -/
def mean : ℝ := (∑ b, ∑ n, u b n) / 800000

/-- The mean squared distance from the mean. -/
def var : ℝ := (∑ b, ∑ n, (u b n - mean u) * (u b n - mean u)) / 800000

/-- The factor a layer of scale `g` applies. -/
def factor (g : ℝ) : ℝ := g / Real.sqrt (var u + e)

theorem var_nonneg : 0 ≤ var u :=
  div_nonneg (Finset.sum_nonneg fun _ _ => Finset.sum_nonneg fun _ _ => mul_self_nonneg _) (by norm_num)

theorem root_pos : 0 < Real.sqrt (var u + e) := Real.sqrt_pos.2 (add_pos_of_nonneg_of_pos (var_nonneg u) e_pos)

/-- A constant summed over the points. -/
theorem sum_const (x : ℝ) : ∑ _b : Fin 8, ∑ _n : Fin 100000, x = 800000 * x := by
  rw [Finset.sum_const, Finset.sum_const, Finset.card_univ, Finset.card_univ, Fintype.card_fin, Fintype.card_fin, nsmul_eq_mul,
    nsmul_eq_mul]
  push_cast
  ring

/-- An offset moves the mean along. -/
theorem mean_add (x : ℝ) : mean (fun b n => u b n + x) = mean u + x := by
  unfold mean
  simp only [Finset.sum_add_distrib]
  rw [sum_const]
  ring

/-- An offset leaves the variance. -/
theorem var_add (x : ℝ) : var (fun b n => u b n + x) = var u := by
  unfold var
  rw [mean_add]
  simp only [add_sub_add_right_eq_sub]

/-- The mean of the squares less the square of the mean is the variance. -/
theorem squares : (∑ b, ∑ n, u b n * u b n) * (1 / 800000) - (∑ b, ∑ n, u b n) * (1 / 800000) * ((∑ b, ∑ n, u b n) * (1 / 800000))
    = var u := by
  have h : ∑ b, ∑ n, (u b n - mean u) * (u b n - mean u)
      = (∑ b, ∑ n, u b n * u b n) - 2 * mean u * (∑ b, ∑ n, u b n) + 800000 * (mean u * mean u) := by
    rw [← sum_const, Finset.mul_sum, ← Finset.sum_sub_distrib, ← Finset.sum_add_distrib]
    refine Finset.sum_congr rfl fun b _ => ?_
    rw [Finset.mul_sum, ← Finset.sum_sub_distrib, ← Finset.sum_add_distrib]
    exact Finset.sum_congr rfl fun n _ => by ring
  unfold var
  rw [h]
  unfold mean
  ring

/-- The root of the variance and the small constant, as extended reals. -/
theorem root_coe : Ideal.sqrt ((var u : EReal) + eps) = ((Real.sqrt (var u + e) : ℝ) : EReal) := by
  rw [eps_coe, ← EReal.coe_add, Ideal.sqrt_coe, if_neg (not_lt.2 (add_nonneg (var_nonneg u) e_pos.le))]

/-- A division by a real that is not zero. -/
theorem div_real (x y : ℝ) (h : y ≠ 0) : Ideal.div (x : EReal) (y : EReal) = ((x / y : ℝ) : EReal) := by
  rw [Ideal.div_coe h, ← EReal.coe_mul]
  congr 1
  ring

/-- The kernel's factor. -/
theorem scale_coe (g : ℝ) :
    scale (g : EReal) (∑ b, ∑ n, (u b n : EReal)) (∑ b, ∑ n, (u b n : EReal) * (u b n : EReal)) = ((factor u g : ℝ) : EReal) := by
  unfold scale rN factor
  simp only [← EReal.coe_mul, ← coe_sum, ← EReal.coe_sub]
  rw [squares, root_coe, div_real _ _ (root_pos u).ne']

/-- The kernel's shift, for any offset after the scale. -/
theorem shift_coe (g : ℝ) (be : EReal) :
    shift (g : EReal) be (∑ b, ∑ n, (u b n : EReal)) (∑ b, ∑ n, (u b n : EReal) * (u b n : EReal))
      = be - ((factor u g * mean u : ℝ) : EReal) := by
  unfold shift
  rw [scale_coe]
  unfold rN mean
  simp only [← EReal.coe_mul, ← coe_sum]
  congr 3
  ring

/-- The mean the reference takes, of the linear part with its offset. -/
theorem mean_coe (x : ℝ) (z : Fin 8 → Fin 100000 → EReal) (hz : ∀ b n, z b n = ((u b n + x : ℝ) : EReal)) :
    Ideal.div (∑ b, ∑ n, z b n) ((800000 : ℝ) : EReal) = ((mean u + x : ℝ) : EReal) := by
  simp only [hz, ← coe_sum]
  rw [div_real _ _ (by norm_num), ← mean_add]
  rfl

/-- The variance the reference takes. -/
theorem var_coe (x : ℝ) (z : Fin 8 → Fin 100000 → EReal) (hz : ∀ b n, z b n = ((u b n + x : ℝ) : EReal)) :
    Ideal.div (∑ b, ∑ n, (z b n - ((mean u + x : ℝ) : EReal)) * (z b n - ((mean u + x : ℝ) : EReal))) ((800000 : ℝ) : EReal)
      = ((var u : ℝ) : EReal) := by
  simp only [hz, ← coe_sum, ← EReal.coe_sub, ← EReal.coe_mul]
  rw [div_real _ _ (by norm_num), ← var_add u x]
  unfold var
  rw [mean_add]

/-- What the reference's normalization computes at a point. -/
theorem norm_coe (x g : ℝ) (be : EReal) (z : Fin 8 → Fin 100000 → EReal) (hz : ∀ b n, z b n = ((u b n + x : ℝ) : EReal)) (M V : EReal)
    (hM : M = Ideal.div (∑ b, ∑ n, z b n) ((800000 : ℝ) : EReal))
    (hV : V = Ideal.div (∑ b, ∑ n, (z b n - M) * (z b n - M)) ((800000 : ℝ) : EReal)) (b : Fin 8) (n : Fin 100000) :
    Ideal.div (z b n - M) (Ideal.sqrt (V + eps)) * (g : EReal) + be
      = ((factor u g * u b n : ℝ) : EReal) + (be - ((factor u g * mean u : ℝ) : EReal)) := by
  rw [mean_coe u x z hz] at hM
  subst hM
  rw [var_coe u x z hz] at hV
  subst hV
  rw [root_coe, hz, ← EReal.coe_sub, div_real _ _ (root_pos u).ne', ← EReal.coe_mul, sub_eq_add_neg be, ← EReal.coe_neg,
    add_comm be, ← add_assoc, ← EReal.coe_add]
  congr 2
  unfold factor
  ring

end Cert.Stats

end
-- ==== Proof.Spread.lean ====
/-
  One layer's normalization over extended reals. Where every linear part is real the kernel's factor and shift give what
  the reference's normalization gives. Where some linear part is infinite, so is the mean; the kernel's factor is then zero
  and its shift the layer's last offset, and the reference divides by an infinite root and keeps only that offset too. The
  kernel's factor is real either way, and it goes through the sum a linear part is.
-/
module

public import proofs.«01_k».proof.Proof.Stats

@[expose] public section

noncomputable section

namespace Cert.Stats

open Idealize.ShloMosaic Cert.Net

/-- Not a real number. -/
def Inf (x : EReal) : Prop := x = ⊤ ∨ x = ⊥

/-- A value is real or it is not. -/
theorem real_or_inf (x : EReal) : (∃ r : ℝ, x = (r : EReal)) ∨ Inf x := by
  induction x with
  | bot => exact .inr (.inr rfl)
  | coe r => exact .inl ⟨r, rfl⟩
  | top => exact .inr (.inl rfl)

theorem not_inf_coe (r : ℝ) : ¬ Inf (r : EReal) := by
  rintro (h | h)
  · exact EReal.coe_ne_top r h
  · exact EReal.coe_ne_bot r h

/-- A sum with an infinite term is infinite. -/
theorem Inf.add {x : EReal} (h : Inf x) (y : EReal) : Inf (x + y) := by
  rcases h with rfl | rfl
  · induction y with
    | bot => exact .inr (by simp)
    | coe r => exact .inl (EReal.top_add_coe r)
    | top => exact .inl rfl
  · exact .inr (EReal.bot_add y)

theorem Inf.sum {ι : Type} {s : Finset ι} {f : ι → EReal} {i : ι} (hi : i ∈ s) (h : Inf (f i)) : Inf (∑ j ∈ s, f j) := by
  classical
  rw [← Finset.add_sum_erase s f hi]
  exact h.add _

/-- Over a positive real it stays infinite. -/
theorem Inf.mul_pos {x : EReal} (h : Inf x) {r : ℝ} (hr : 0 < r) : Inf (x * (r : EReal)) := by
  rcases h with rfl | rfl
  · exact .inl (EReal.top_mul_coe_of_pos hr)
  · exact .inr (EReal.bot_mul_coe_of_pos hr)

/-- An infinite value's square. -/
theorem Inf.square {x : EReal} (h : Inf x) : x * x = ⊤ := by
  rcases h with rfl | rfl <;> simp

/-- The distance from an infinite mean is infinite. -/
theorem Inf.sub {M : EReal} (h : Inf M) (x : EReal) : Inf (x - M) := by
  rw [sub_eq_add_neg, add_comm]
  refine Inf.add ?_ x
  rcases h with rfl | rfl
  · exact .inr EReal.neg_top
  · exact .inl EReal.neg_bot

/-- A square is at least zero. -/
theorem square_nonneg (x : EReal) : 0 ≤ x * x := by
  rcases real_or_inf x with ⟨r, rfl⟩ | h
  · rw [← EReal.coe_mul]
    exact EReal.coe_nonneg.2 (mul_self_nonneg r)
  · rw [h.square]
    exact le_top

/-- A sum of squares with an infinite term. -/
theorem squares_top (f : Fin 8 → Fin 100000 → EReal) (b : Fin 8) (n : Fin 100000) (h : Inf (f b n)) :
    ∑ b, ∑ n, f b n * f b n = ⊤ := by
  refine top_le_iff.1 ?_
  calc (⊤ : EReal) = f b n * f b n := h.square.symm
    _ ≤ ∑ n, f b n * f b n := Finset.single_le_sum (f := fun n => f b n * f b n) (fun _ _ => square_nonneg _) (Finset.mem_univ n)
    _ ≤ ∑ b, ∑ n, f b n * f b n :=
      Finset.single_le_sum (f := fun b => ∑ n, f b n * f b n) (fun _ _ => Finset.sum_nonneg fun _ _ => square_nonneg _) (Finset.mem_univ b)

/-- A real product through a sum of two that is real. -/
theorem mul_add_real (a : ℝ) (x y : EReal) (h : ¬ Inf (x + y)) : (a : EReal) * (x + y) = a * x + a * y := by
  rcases real_or_inf x with ⟨r, rfl⟩ | hx
  · rcases real_or_inf y with ⟨s, rfl⟩ | hy
    · simp only [← EReal.coe_add, ← EReal.coe_mul, mul_add]
    · exact absurd (add_comm y _ ▸ hy.add _) h
  · exact absurd (hx.add y) h

/-- A real product through a sum that is real. -/
theorem mul_sum_real {ι : Type} [Fintype ι] (a : ℝ) (f : ι → EReal) (h : ¬ Inf (∑ i, f i)) : (a : EReal) * ∑ i, f i = ∑ i, a * f i := by
  have hf : ∀ i, ∃ r : ℝ, f i = (r : EReal) := fun i => (real_or_inf (f i)).resolve_right fun hi => h (hi.sum (Finset.mem_univ i))
  choose r hr using hf
  simp only [hr, ← EReal.coe_mul, ← coe_sum, Finset.mul_sum]

variable (u : Fin 8 → Fin 100000 → EReal)

/-- All of the linear parts are real, or one is not. -/
theorem all_or_one : (∃ v : Fin 8 → Fin 100000 → ℝ, u = fun b n => (v b n : EReal)) ∨ ∃ b n, Inf (u b n) := by
  by_cases h : ∃ b n, Inf (u b n)
  · exact .inr h
  · have hf : ∀ b n, ∃ r : ℝ, u b n = (r : EReal) := fun b n => (real_or_inf (u b n)).resolve_right fun hi => h ⟨b, n, hi⟩
    choose v hv using hf
    exact .inl ⟨v, funext fun b => funext fun n => hv b n⟩

/-- With an infinite linear part the kernel's factor is zero … -/
theorem scale_inf (g : ℝ) (h : ∃ b n, Inf (u b n)) : scale (g : EReal) (∑ b, ∑ n, u b n) (∑ b, ∑ n, u b n * u b n) = 0 := by
  obtain ⟨b, n, h⟩ := h
  have hS : Inf (∑ b, ∑ n, u b n) := Inf.sum (f := fun b => ∑ n, u b n) (Finset.mem_univ b) (h.sum (Finset.mem_univ n))
  have hm : Inf ((∑ b, ∑ n, u b n) * rN) := hS.mul_pos (by norm_num)
  unfold scale
  rw [hm.square, squares_top u b n h, show (⊤ : EReal) * rN = ⊤ from EReal.top_mul_coe_of_pos (by norm_num),
    show (⊤ : EReal) - ⊤ = ⊥ from rfl, EReal.bot_add, Ideal.sqrt_bot, Ideal.div, if_neg EReal.bot_ne_zero, EReal.inv_bot, mul_zero]

/-- … and its shift the layer's last offset. -/
theorem shift_inf (g : ℝ) (be : EReal) (h : ∃ b n, Inf (u b n)) :
    shift (g : EReal) be (∑ b, ∑ n, u b n) (∑ b, ∑ n, u b n * u b n) = be := by
  unfold shift
  rw [scale_inf u g h, zero_mul, sub_zero]

/-- The kernel's factor is real. -/
theorem scale_real (g : ℝ) : ∃ a : ℝ, scale (g : EReal) (∑ b, ∑ n, u b n) (∑ b, ∑ n, u b n * u b n) = (a : EReal) := by
  rcases all_or_one u with ⟨v, rfl⟩ | h
  · exact ⟨_, scale_coe v g⟩
  · exact ⟨0, scale_inf u g h⟩

/-- The kernel's factor goes through a linear part that is a sum of two … -/
theorem scale_add (g : ℝ) (b : Fin 8) (n : Fin 100000) (x y : EReal) (hu : u b n = x + y) :
    scale (g : EReal) (∑ b, ∑ n, u b n) (∑ b, ∑ n, u b n * u b n) * (x + y)
      = scale (g : EReal) (∑ b, ∑ n, u b n) (∑ b, ∑ n, u b n * u b n) * x + scale (g : EReal) (∑ b, ∑ n, u b n) (∑ b, ∑ n, u b n * u b n) * y := by
  by_cases h : ∃ b n, Inf (u b n)
  · rw [scale_inf u g h]
    simp
  · obtain ⟨a, ha⟩ := scale_real u g
    rw [ha]
    exact mul_add_real a x y fun hi => h ⟨b, n, hu ▸ hi⟩

/-- … and through one that is a sum, or a term of it. -/
theorem scale_sum (g : ℝ) (b : Fin 8) (n : Fin 100000) {ι : Type} [Fintype ι] (f : ι → EReal) (y : EReal) (hu : u b n = ∑ i, f i + y) :
    scale (g : EReal) (∑ b, ∑ n, u b n) (∑ b, ∑ n, u b n * u b n) * ∑ i, f i
      = ∑ i, scale (g : EReal) (∑ b, ∑ n, u b n) (∑ b, ∑ n, u b n * u b n) * f i := by
  by_cases h : ∃ b n, Inf (u b n)
  · rw [scale_inf u g h]
    simp
  · obtain ⟨a, ha⟩ := scale_real u g
    rw [ha]
    exact mul_sum_real a f fun hi => h ⟨b, n, hu ▸ hi.add y⟩

/-- What the reference's normalization computes at a point is the kernel's factor times the linear part plus the kernel's shift. -/
theorem norm_eq (x g : ℝ) (be : EReal) (z : Fin 8 → Fin 100000 → EReal) (hz : ∀ b n, z b n = u b n + (x : EReal)) (M V : EReal)
    (hM : M = Ideal.div (∑ b, ∑ n, z b n) ((800000 : ℝ) : EReal))
    (hV : V = Ideal.div (∑ b, ∑ n, (z b n - M) * (z b n - M)) ((800000 : ℝ) : EReal)) (b : Fin 8) (n : Fin 100000) :
    Ideal.div (z b n - M) (Ideal.sqrt (V + eps)) * (g : EReal) + be
      = scale (g : EReal) (∑ b, ∑ n, u b n) (∑ b, ∑ n, u b n * u b n) * u b n
        + shift (g : EReal) be (∑ b, ∑ n, u b n) (∑ b, ∑ n, u b n * u b n) := by
  rcases all_or_one u with ⟨v, rfl⟩ | h
  · rw [norm_coe v x g be z (fun b n => (hz b n).trans (EReal.coe_add _ _).symm) M V hM hV, scale_coe, shift_coe, EReal.coe_mul]
  · rw [scale_inf u g h, shift_inf u g be h, zero_mul, zero_add]
    obtain ⟨b', n', h⟩ := h
    have hMi : Inf M := by
      rw [hM, Ideal.div_coe (by norm_num)]
      refine Inf.mul_pos (Inf.sum (f := fun b => ∑ n, z b n) (Finset.mem_univ b') (Inf.sum (Finset.mem_univ n') ?_)) (by norm_num)
      rw [hz]
      exact h.add _
    have hVt : V = ⊤ := by
      rw [hV, squares_top (fun b n => z b n - M) b' n' (hMi.sub _), Ideal.div_coe (by norm_num)]
      exact EReal.top_mul_coe_of_pos (by norm_num)
    rw [hVt, eps_coe, EReal.top_add_coe, Ideal.sqrt_top, Ideal.div, if_neg EReal.top_ne_zero, EReal.inv_top, mul_zero, zero_mul,
      zero_add]

end Cert.Stats

end
-- ==== Proof.Agree.lean ====
/-
  The kernel's network when the layers' factors after the normalizations are real. The scale folded into the weights gives the scale
  times the linear part, so every layer's output is the scale times the linear part plus the shift, cut at zero. The last
  layer's output is the largest such value over a cloud: it grows with the linear part when the scale is at least zero, and
  falls with it otherwise, so the extreme that the scale's sign picks gives the largest.
-/
module

public import proofs.«01_k».proof.Proof.Spread

@[expose] public section

noncomputable section

namespace Cert.Stats

open Idealize.ShloMosaic Cert.Net

/-- The factors after the three normalizations are the reals `γ1`, `γ2`, `γ3`. -/
structure RealScales (D : Data) (γ1 γ2 : Fin 32 → ℝ) (γ3 : Fin 64 → ℝ) : Prop where
  g1 : ∀ o, D.g1 o = (γ1 o : EReal)
  g2 : ∀ o, D.g2 o = (γ2 o : EReal)
  g3 : ∀ o, D.g3 o = (γ3 o : EReal)

/-- The point of a cloud where a value is largest. -/
theorem sup_point (f : Fin 100000 → EReal) : ∃ k, (∀ n, f n ≤ f k) ∧ Finset.univ.sup f = f k := by
  obtain ⟨k, _, hk⟩ := Finset.exists_max_image Finset.univ f ⟨⟨0, by omega⟩, Finset.mem_univ _⟩
  exact ⟨k, fun n => hk n (Finset.mem_univ n), le_antisymm (Finset.sup_le fun n _ => hk n (Finset.mem_univ n))
    (Finset.le_sup (Finset.mem_univ k))⟩

/-- The point of a cloud where a value is least. -/
theorem inf_point (f : Fin 100000 → EReal) : ∃ k, (∀ n, f k ≤ f n) ∧ Finset.univ.inf f = f k := by
  obtain ⟨k, _, hk⟩ := Finset.exists_min_image Finset.univ f ⟨⟨0, by omega⟩, Finset.mem_univ _⟩
  exact ⟨k, fun n => hk n (Finset.mem_univ n), le_antisymm (Finset.inf_le (Finset.mem_univ k))
    (Finset.le_inf fun n _ => hk n (Finset.mem_univ n))⟩

/-- A function of the points is largest where it is largest. -/
theorem sup_at (f : Fin 100000 → EReal) (k : Fin 100000) (hk : ∀ n, f n ≤ f k) : Finset.univ.sup f = f k :=
  le_antisymm (Finset.sup_le fun n _ => hk n) (Finset.le_sup (Finset.mem_univ k))

/-- A scale below zero turns the order around. -/
theorem mul_neg_mono {a x y : EReal} (ha : a ≤ 0) (h : x ≤ y) : a * y ≤ a * x := by
  have h' : -a * x ≤ -a * y := mul_le_mul_of_nonneg_left h (EReal.neg_nonneg.2 ha)
  rw [EReal.neg_mul, EReal.neg_mul] at h'
  exact EReal.neg_le_neg_iff.1 h'

/-- The extreme that the scale's sign picks gives the largest output. -/
theorem extreme (a c : EReal) (f : Fin 100000 → EReal) :
    max (a * (if 0 ≤ a then Finset.univ.sup f else Finset.univ.inf f) + c) 0 = Finset.univ.sup fun n => max (a * f n + c) 0 := by
  by_cases ha : 0 ≤ a
  · obtain ⟨k, hk, e⟩ := sup_point f
    rw [if_pos ha, e, sup_at _ k fun n => max_le_max_right _ (add_le_add_left (mul_le_mul_of_nonneg_left (hk n) ha) _)]
  · obtain ⟨k, hk, e⟩ := inf_point f
    rw [if_neg ha, e, sup_at _ k fun n => max_le_max_right _ (add_le_add_left (mul_neg_mono (not_le.1 ha).le (hk n)) _)]

variable {D : Data} {γ1 γ2 : Fin 32 → ℝ} {γ3 : Fin 64 → ℝ} (h : RealScales D γ1 γ2 γ3)

include h

/-- The first layer's scale, from the sums over the clouds and points. -/
theorem a1_eq (o : Fin 32) : D.a1 o = scale (γ1 o : EReal) (∑ b, ∑ n, D.z1 b n o) (∑ b, ∑ n, D.z1 b n o * D.z1 b n o) := by
  rw [← h.g1]
  rfl

/-- The first layer's shift. -/
theorem c1_eq (o : Fin 32) :
    D.c1 o = shift (γ1 o : EReal) (D.be1 o) (∑ b, ∑ n, D.z1 b n o) (∑ b, ∑ n, D.z1 b n o * D.z1 b n o) := by
  rw [← h.g1]
  rfl

/-- The first layer's output. -/
theorem h1_eq (o : Fin 32) (b : Fin 8) (n : Fin 100000) : D.h1 b n o = max (D.a1 o * D.z1 b n o + D.c1 o) 0 := by
  have e : ∑ k : Fin 3, (D.a1 o * D.w1 o ⟨k.val, by omega⟩) * D.pos b k n
      + ∑ k : Fin 16, (D.a1 o * D.w1 o ⟨3 + k.val, by omega⟩) * D.feat b k n = D.a1 o * D.z1 b n o := by
    simp only [mul_assoc]
    rw [a1_eq h o, ← scale_sum (fun b n => D.z1 b n o) (γ1 o) b n _ _ rfl,
      ← scale_sum (fun b n => D.z1 b n o) (γ1 o) b n _ _ (add_comm _ _),
      ← scale_add (fun b n => D.z1 b n o) (γ1 o) b n _ _ rfl]
    rfl
  unfold Data.h1
  rw [e]

/-- The second layer's scale, from the sums over the clouds and points. -/
theorem a2_eq (o : Fin 32) : D.a2 o = scale (γ2 o : EReal) (∑ b, ∑ n, D.z2 b n o) (∑ b, ∑ n, D.z2 b n o * D.z2 b n o) := by
  rw [← h.g2]
  rfl

/-- The second layer's shift. -/
theorem c2_eq (o : Fin 32) :
    D.c2 o = shift (γ2 o : EReal) (D.be2 o) (∑ b, ∑ n, D.z2 b n o) (∑ b, ∑ n, D.z2 b n o * D.z2 b n o) := by
  rw [← h.g2]
  rfl

/-- The second layer's output. -/
theorem h2_eq (o : Fin 32) (b : Fin 8) (n : Fin 100000) : D.h2 b n o = max (D.a2 o * D.z2 b n o + D.c2 o) 0 := by
  have e : ∑ x, (D.a2 o * D.w2 o x) * D.h1 b n x = D.a2 o * D.z2 b n o := by
    simp only [mul_assoc]
    rw [a2_eq h o, ← scale_sum (fun b n => D.z2 b n o) (γ2 o) b n _ 0 (add_zero _).symm]
    rfl
  unfold Data.h2
  rw [e]

/-- The third layer's scale, from the sums over the clouds and points. -/
theorem a3_eq (o : Fin 64) : D.a3 o = scale (γ3 o : EReal) (∑ b, ∑ n, D.z3 b n o) (∑ b, ∑ n, D.z3 b n o * D.z3 b n o) := by
  rw [← h.g3]
  rfl

/-- The third layer's shift. -/
theorem c3_eq (o : Fin 64) :
    D.c3 o = shift (γ3 o : EReal) (D.be3 o) (∑ b, ∑ n, D.z3 b n o) (∑ b, ∑ n, D.z3 b n o * D.z3 b n o) := by
  rw [← h.g3]
  rfl

omit h in
/-- The kernel's output is the largest last layer's value over the cloud. -/
theorem out_eq (o : Fin 64) (b : Fin 8) : D.out b o = Finset.univ.sup fun n => max (D.a3 o * D.z3 b n o + D.c3 o) 0 :=
  extreme (D.a3 o) (D.c3 o) fun n => D.z3 b n o

end Cert.Stats

end
-- ==== Proof.Reference.lean ====
/-
  The reference read at a point. Each layer's linear part, its mean and variance over the clouds and points, and its
  normalization are read at an index; when the offsets before the normalizations and the factors after them are real, each
  layer's output is the kernel's, and the second result is the kernel's output.
-/
module

public import proofs.«01_k».proof.Proof.Gen.ReferenceIdeal.Read
public import proofs.«01_k».proof.Proof.Agree
public import Idealize.ShloMosaic.Lib.Pointwise

@[expose] public section

noncomputable section

namespace Cert.ReferenceIdeal.Hand

open Cert.ReferenceIdeal Cert.ReferenceIdeal.Gen Cert.ReferenceIdeal.Read Idealize.ShloMosaic Idealize.ShloMosaic.TcCoe Idealize.SL.Sem
open Idealize.ShloMosaic.StableHlo Idealize.ShloMosaic.Pointwise

/-- A sum over the clouds, the points and the last axis, at a channel. -/
theorem sum_channel {n0 n1 n2 : ℕ} (h : (⟨4, ![n0, n1, n2, 1]⟩ : Shape).ReducesTo [0, 2, 3] ⟨1, ![n1]⟩)
    (v : (⟨4, ![n0, n1, n2, 1]⟩ : Shape).Idx → EReal) (init : EReal) (o : Fin n1) :
    Ideal.hostReduceAdd h v init (ix1 o) = init + ∑ b : Fin n0, ∑ n : Fin n2, v (ix4 b o n 0) := by
  unfold Ideal.hostReduceAdd
  congr 1
  rw [← Fintype.sum_prod_type']
  symm
  refine Finset.sum_bij (fun p _ => ix4 p.1 o p.2 0) ?_ ?_ ?_ ?_
  · intro p _
    refine Finset.mem_filter.2 ⟨Finset.mem_univ _, ?_⟩
    funext a
    match a with
    | ⟨0, _⟩ => rfl
  · intro p _ q _ e
    exact Prod.ext (congrFun e 0) (congrFun e 2)
  · intro i hi
    have hd := (Finset.mem_filter.1 hi).2
    refine ⟨(i 0, i 2), Finset.mem_univ _, ?_⟩
    funext a
    match a with
    | ⟨0, _⟩ => rfl
    | ⟨1, _⟩ => exact (congrFun hd 0).symm
    | ⟨2, _⟩ => rfl
    | ⟨3, _⟩ => exact Subsingleton.elim (α := Fin 1) _ _
  · intro p _
    rfl

/-- The count the variance divides by. -/
def count : FVec Ideal S_ .f32 := subf (constant S_ .f32 0x49435000#32) (sitofp .f32 (constantI S_ 32 0#32))

theorem count_at (i : S_.Idx) : count i = ((800000 : ℝ) : EReal) := by
  have h : (Scalar.sitofp (F := Ideal) .f32 (0#32 : BitVec 32)) = 0 := by
    rw [Ideal.scalar_sitofp_def]; simp
  pointwise [count]
  exact (congrArg (fun x => Ideal.ofBits .f32 0x49435000#32 - x) h).trans (by rw [sub_zero, Stats.count_coe])

/-- The mean over the clouds and points, for 32 channels. -/
def mean32 (z : FVec Ideal S8x32x100000x1 .f32) : FVec Ideal S1x32x1x1 .f32 :=
  Host.divf (broadcastInDim S1x32x1x1 ![1] bcast_S32_S1x32x1x1_1 (Host.reduceAdd z (constant S_ .f32 0x00000000#32) reducesTo_S8x32x100000x1_S32_d0_2_3 h_S_)) (broadcastInDim S1x32x1x1 ![] bcast_S_S1x32x1x1 (constant S_ .f32 0x49435000#32))

/-- The distance from the mean. -/
def dev32 (z : FVec Ideal S8x32x100000x1 .f32) : FVec Ideal S8x32x100000x1 .f32 :=
  subf z (broadcastInDim S8x32x100000x1 ![0, 1, 2, 3] bcast_S1x32x1x1_S8x32x100000x1_0_1_2_3 (mean32 z))

/-- The variance, as the program takes it: a division by the count where it is positive. -/
def var32 (z : FVec Ideal S8x32x100000x1 .f32) (k : FVec Ideal S_ .f32) : FVec Ideal S1x32x1x1 .f32 :=
  select (broadcastInDim S1x32x1x1 ![] bcast_S_S1x32x1x1 (cmpf .ogt k (constant S_ .f32 0x00000000#32))) (Host.divf (broadcastInDim S1x32x1x1 ![1] bcast_S32_S1x32x1x1_1 (Host.reduceAdd (mulf (dev32 z) (dev32 z)) (constant S_ .f32 0x00000000#32) reducesTo_S8x32x100000x1_S32_d0_2_3 h_S_)) (broadcastInDim S1x32x1x1 ![] bcast_S_S1x32x1x1 k)) (broadcastInDim S1x32x1x1 ![] bcast_S_S1x32x1x1 (id (constant S_ .f32 0x7FC00000#32)))

/-- The normalization of a linear part of mean `m` and variance `v`, cut at zero. -/
def norm32 (z : FVec Ideal S8x32x100000x1 .f32) (m v : FVec Ideal S1x32x1x1 .f32) (g be : FVec Ideal S32 .f32) : FVec Ideal S8x32x100000x1 .f32 :=
  maximumf (addf (mulf (Host.divf (subf z (broadcastInDim S8x32x100000x1 ![0, 1, 2, 3] bcast_S1x32x1x1_S8x32x100000x1_0_1_2_3 m)) (broadcastInDim S8x32x100000x1 ![0, 1, 2, 3] bcast_S1x32x1x1_S8x32x100000x1_0_1_2_3 (Host.sqrt (addf v (broadcastInDim S1x32x1x1 ![] bcast_S_S1x32x1x1 (constant S_ .f32 0x3727C5AC#32)))))) (broadcastInDim S8x32x100000x1 ![0, 1, 2, 3] bcast_S1x32x1x1_S8x32x100000x1_0_1_2_3 (broadcastInDim S1x32x1x1 ![1] bcast_S32_S1x32x1x1_1 g))) (broadcastInDim S8x32x100000x1 ![0, 1, 2, 3] bcast_S1x32x1x1_S8x32x100000x1_0_1_2_3 (broadcastInDim S1x32x1x1 ![1] bcast_S32_S1x32x1x1_1 be))) (broadcastInDim S8x32x100000x1 ![] bcast_S_S8x32x100000x1 (constant S_ .f32 0x00000000#32))

theorem mean32_at (z : FVec Ideal S8x32x100000x1 .f32) (o : Fin 32) :
    mean32 z (ix4 0 o 0 0) = Ideal.div (∑ b : Fin 8, ∑ n : Fin 100000, z (ix4 b o n 0)) ((800000 : ℝ) : EReal) := by
  pointwise [mean32]
  rw [sum_channel, zero_add]
  exact congrArg _ Stats.count_coe

theorem dev32_at (z : FVec Ideal S8x32x100000x1 .f32) (b : Fin 8) (o : Fin 32) (n : Fin 100000) :
    dev32 z (ix4 b o n 0) = z (ix4 b o n 0) - mean32 z (ix4 0 o 0 0) := by
  pointwise [dev32]

theorem var32_at (z : FVec Ideal S8x32x100000x1 .f32) (k : FVec Ideal S_ .f32) (hk : ∀ i, k i = ((800000 : ℝ) : EReal)) (o : Fin 32) :
    var32 z k (ix4 0 o 0 0) = Ideal.div (∑ b : Fin 8, ∑ n : Fin 100000, dev32 z (ix4 b o n 0) * dev32 z (ix4 b o n 0)) ((800000 : ℝ) : EReal) := by
  unfold var32
  generalize dev32 z = d
  pointwise
  rw [hk, if_pos (EReal.coe_pos.2 (by norm_num)), sum_channel, zero_add]
  rfl

theorem norm32_at (z : FVec Ideal S8x32x100000x1 .f32) (m v : FVec Ideal S1x32x1x1 .f32) (g be : FVec Ideal S32 .f32) (b : Fin 8) (o : Fin 32) (n : Fin 100000) :
    norm32 z m v g be (ix4 b o n 0)
      = max (Ideal.div (z (ix4 b o n 0) - m (ix4 0 o 0 0)) (Ideal.sqrt (v (ix4 0 o 0 0) + Net.eps)) * g (ix1 o) + be (ix1 o)) 0 := by
  pointwise [norm32]
  rfl

/-- The normalization of a linear part `u` with a real offset `x`, in the kernel's factor and shift. -/
theorem norm32_lin (z : FVec Ideal S8x32x100000x1 .f32) (g be : FVec Ideal S32 .f32) (o : Fin 32) (u : Fin 8 → Fin 100000 → EReal) (x γ : ℝ)
    (hz : ∀ b n, z (ix4 b o n 0) = u b n + (x : EReal)) (hg : g (ix1 o) = (γ : EReal)) (b : Fin 8) (n : Fin 100000) :
    norm32 z (mean32 z) (var32 z count) g be (ix4 b o n 0)
      = max (Net.scale (γ : EReal) (∑ b, ∑ n, u b n) (∑ b, ∑ n, u b n * u b n) * u b n
        + Net.shift (γ : EReal) (be (ix1 o)) (∑ b, ∑ n, u b n) (∑ b, ∑ n, u b n * u b n)) 0 := by
  rw [norm32_at, hg, Stats.norm_eq u x γ (be (ix1 o)) (fun b n => z (ix4 b o n 0)) hz _ _ (mean32_at z o)
    ((var32_at z count count_at o).trans (by simp only [dev32_at])) b n]

/-- The mean over the clouds and points, for 64 channels. -/
def mean64 (z : FVec Ideal S8x64x100000x1 .f32) : FVec Ideal S1x64x1x1 .f32 :=
  Host.divf (broadcastInDim S1x64x1x1 ![1] bcast_S64_S1x64x1x1_1 (Host.reduceAdd z (constant S_ .f32 0x00000000#32) reducesTo_S8x64x100000x1_S64_d0_2_3 h_S_)) (broadcastInDim S1x64x1x1 ![] bcast_S_S1x64x1x1 (constant S_ .f32 0x49435000#32))

/-- The distance from the mean. -/
def dev64 (z : FVec Ideal S8x64x100000x1 .f32) : FVec Ideal S8x64x100000x1 .f32 :=
  subf z (broadcastInDim S8x64x100000x1 ![0, 1, 2, 3] bcast_S1x64x1x1_S8x64x100000x1_0_1_2_3 (mean64 z))

/-- The variance, as the program takes it: a division by the count where it is positive. -/
def var64 (z : FVec Ideal S8x64x100000x1 .f32) (k : FVec Ideal S_ .f32) : FVec Ideal S1x64x1x1 .f32 :=
  select (broadcastInDim S1x64x1x1 ![] bcast_S_S1x64x1x1 (cmpf .ogt k (constant S_ .f32 0x00000000#32))) (Host.divf (broadcastInDim S1x64x1x1 ![1] bcast_S64_S1x64x1x1_1 (Host.reduceAdd (mulf (dev64 z) (dev64 z)) (constant S_ .f32 0x00000000#32) reducesTo_S8x64x100000x1_S64_d0_2_3 h_S_)) (broadcastInDim S1x64x1x1 ![] bcast_S_S1x64x1x1 k)) (broadcastInDim S1x64x1x1 ![] bcast_S_S1x64x1x1 (id (constant S_ .f32 0x7FC00000#32)))

/-- The normalization of a linear part of mean `m` and variance `v`, cut at zero. -/
def norm64 (z : FVec Ideal S8x64x100000x1 .f32) (m v : FVec Ideal S1x64x1x1 .f32) (g be : FVec Ideal S64 .f32) : FVec Ideal S8x64x100000x1 .f32 :=
  maximumf (addf (mulf (Host.divf (subf z (broadcastInDim S8x64x100000x1 ![0, 1, 2, 3] bcast_S1x64x1x1_S8x64x100000x1_0_1_2_3 m)) (broadcastInDim S8x64x100000x1 ![0, 1, 2, 3] bcast_S1x64x1x1_S8x64x100000x1_0_1_2_3 (Host.sqrt (addf v (broadcastInDim S1x64x1x1 ![] bcast_S_S1x64x1x1 (constant S_ .f32 0x3727C5AC#32)))))) (broadcastInDim S8x64x100000x1 ![0, 1, 2, 3] bcast_S1x64x1x1_S8x64x100000x1_0_1_2_3 (broadcastInDim S1x64x1x1 ![1] bcast_S64_S1x64x1x1_1 g))) (broadcastInDim S8x64x100000x1 ![0, 1, 2, 3] bcast_S1x64x1x1_S8x64x100000x1_0_1_2_3 (broadcastInDim S1x64x1x1 ![1] bcast_S64_S1x64x1x1_1 be))) (broadcastInDim S8x64x100000x1 ![] bcast_S_S8x64x100000x1 (constant S_ .f32 0x00000000#32))

theorem mean64_at (z : FVec Ideal S8x64x100000x1 .f32) (o : Fin 64) :
    mean64 z (ix4 0 o 0 0) = Ideal.div (∑ b : Fin 8, ∑ n : Fin 100000, z (ix4 b o n 0)) ((800000 : ℝ) : EReal) := by
  pointwise [mean64]
  rw [sum_channel, zero_add]
  exact congrArg _ Stats.count_coe

theorem dev64_at (z : FVec Ideal S8x64x100000x1 .f32) (b : Fin 8) (o : Fin 64) (n : Fin 100000) :
    dev64 z (ix4 b o n 0) = z (ix4 b o n 0) - mean64 z (ix4 0 o 0 0) := by
  pointwise [dev64]

theorem var64_at (z : FVec Ideal S8x64x100000x1 .f32) (k : FVec Ideal S_ .f32) (hk : ∀ i, k i = ((800000 : ℝ) : EReal)) (o : Fin 64) :
    var64 z k (ix4 0 o 0 0) = Ideal.div (∑ b : Fin 8, ∑ n : Fin 100000, dev64 z (ix4 b o n 0) * dev64 z (ix4 b o n 0)) ((800000 : ℝ) : EReal) := by
  unfold var64
  generalize dev64 z = d
  pointwise
  rw [hk, if_pos (EReal.coe_pos.2 (by norm_num)), sum_channel, zero_add]
  rfl

theorem norm64_at (z : FVec Ideal S8x64x100000x1 .f32) (m v : FVec Ideal S1x64x1x1 .f32) (g be : FVec Ideal S64 .f32) (b : Fin 8) (o : Fin 64) (n : Fin 100000) :
    norm64 z m v g be (ix4 b o n 0)
      = max (Ideal.div (z (ix4 b o n 0) - m (ix4 0 o 0 0)) (Ideal.sqrt (v (ix4 0 o 0 0) + Net.eps)) * g (ix1 o) + be (ix1 o)) 0 := by
  pointwise [norm64]
  rfl

/-- The normalization of a linear part `u` with a real offset `x`, in the kernel's factor and shift. -/
theorem norm64_lin (z : FVec Ideal S8x64x100000x1 .f32) (g be : FVec Ideal S64 .f32) (o : Fin 64) (u : Fin 8 → Fin 100000 → EReal) (x γ : ℝ)
    (hz : ∀ b n, z (ix4 b o n 0) = u b n + (x : EReal)) (hg : g (ix1 o) = (γ : EReal)) (b : Fin 8) (n : Fin 100000) :
    norm64 z (mean64 z) (var64 z count) g be (ix4 b o n 0)
      = max (Net.scale (γ : EReal) (∑ b, ∑ n, u b n) (∑ b, ∑ n, u b n * u b n) * u b n
        + Net.shift (γ : EReal) (be (ix1 o)) (∑ b, ∑ n, u b n) (∑ b, ∑ n, u b n * u b n)) 0 := by
  rw [norm64_at, hg, Stats.norm_eq u x γ (be (ix1 o)) (fun b n => z (ix4 b o n 0)) hz _ _ (mean64_at z o)
    ((var64_at z count count_at o).trans (by simp only [dev64_at])) b n]

variable (x0 : FVec Ideal S8x3x100000 .f32) (x1 : FVec Ideal S8x16x100000 .f32) (x2 : FVec Ideal S32x19 .f32) (x3 x4 x5 : FVec Ideal S32 .f32)
  (x6 : FVec Ideal S32x32 .f32) (x7 x8 x9 : FVec Ideal S32 .f32) (x10 : FVec Ideal S64x32 .f32) (x11 x12 x13 : FVec Ideal S64 .f32)

/-- Layer 1's linear part with its offset. -/
theorem v11_at (b : Fin 8) (o : Fin 32) (n : Fin 100000) : val_main_v11 (F := Ideal) x0 x1 x2 x3 (ix4 b o n 0)
    = ∑ k : Fin 3, x0 (ix3 b k n) * x2 (ix2 o ⟨k.val, by omega⟩) + ∑ k : Fin 16, x1 (ix3 b k n) * x2 (ix2 o ⟨3 + k.val, by omega⟩) + x3 (ix1 o) := by
  pointwise [val_main_v11, val_main_v10, val_main_v9, val_main_v8, val_main_v7, val_main_v6, val_main_v5, val_main_v4, val_main_v3, val_main_v1, val_main_v0]

/-- Layer 1's output is the normalization of its linear part. -/
theorem v30_eq (z : FVec Ideal S8x32x100000x1 .f32) (hz : val_main_v11 (F := Ideal) x0 x1 x2 x3 = z) :
    val_main_v30 (F := Ideal) x0 x1 x2 x3 x4 x5 = norm32 z (mean32 z) (var32 z count) x4 x5 := by
  subst hz
  rfl

/-- Layer 2's linear part with its offset. -/
theorem v35_at (b : Fin 8) (o : Fin 32) (n : Fin 100000) : val_main_v35 (F := Ideal) x0 x1 x2 x3 x4 x5 x6 x7 (ix4 b o n 0)
    = ∑ k : Fin 32, val_main_v30 (F := Ideal) x0 x1 x2 x3 x4 x5 (ix4 b k n 0) * x6 (ix2 o k) + x7 (ix1 o) := by
  unfold val_main_v35 val_main_v32 val_main_v31
  generalize val_main_v30 (F := Ideal) x0 x1 x2 x3 x4 x5 = h
  pointwise [val_main_v34, val_main_v33]

/-- Layer 2's output is the normalization of its linear part. -/
theorem v54_eq (z : FVec Ideal S8x32x100000x1 .f32) (hz : val_main_v35 (F := Ideal) x0 x1 x2 x3 x4 x5 x6 x7 = z) :
    val_main_v54 (F := Ideal) x0 x1 x2 x3 x4 x5 x6 x7 x8 x9 = norm32 z (mean32 z) (var32 z count) x8 x9 := by
  subst hz
  rfl

/-- Layer 3's linear part with its offset. -/
theorem v59_at (b : Fin 8) (o : Fin 64) (n : Fin 100000) : val_main_v59 (F := Ideal) x0 x1 x2 x3 x4 x5 x6 x7 x8 x9 x10 x11 (ix4 b o n 0)
    = ∑ k : Fin 32, val_main_v54 (F := Ideal) x0 x1 x2 x3 x4 x5 x6 x7 x8 x9 (ix4 b k n 0) * x10 (ix2 o k) + x11 (ix1 o) := by
  unfold val_main_v59 val_main_v56 val_main_v55
  generalize val_main_v54 (F := Ideal) x0 x1 x2 x3 x4 x5 x6 x7 x8 x9 = h
  pointwise [val_main_v58, val_main_v57]

/-- Layer 3's output is the normalization of its linear part. -/
theorem v78_eq (z : FVec Ideal S8x64x100000x1 .f32) (hz : val_main_v59 (F := Ideal) x0 x1 x2 x3 x4 x5 x6 x7 x8 x9 x10 x11 = z) :
    val_main_v78 (F := Ideal) x0 x1 x2 x3 x4 x5 x6 x7 x8 x9 x10 x11 x12 x13 = norm64 z (mean64 z) (var64 z count) x12 x13 := by
  subst hz
  rfl

/-- The word the largest value starts from. -/
theorem least_word : Ideal.ofBits .f32 0xFF800000#32 = ⊥ := by
  simp [Ideal.ofBits, Ideal.ieee]

/-- The second result is the largest of layer 3's output over a cloud. -/
theorem v79_at (b : Fin 8) (o : Fin 64) : val_main_v79 (F := Ideal) x0 x1 x2 x3 x4 x5 x6 x7 x8 x9 x10 x11 x12 x13 (ix3 b o 0)
    = Finset.univ.sup fun n : Fin 100000 => val_main_v78 (F := Ideal) x0 x1 x2 x3 x4 x5 x6 x7 x8 x9 x10 x11 x12 x13 (ix4 b o n 0) := by
  unfold val_main_v79 val_main_cst_11
  generalize val_main_v78 (F := Ideal) x0 x1 x2 x3 x4 x5 x6 x7 x8 x9 x10 x11 x12 x13 = h
  pointwise
  rw [least_word]
  rfl

/-- The reference's arrays are the network's, the offsets before the normalizations are the reals `β1`, `β2`, `β3` and the factors after them the reals `γ1`, `γ2`, `γ3`. -/
structure Reads (D : Net.Data) (β1 γ1 β2 γ2 : Fin 32 → ℝ) (β3 γ3 : Fin 64 → ℝ) : Prop where
  pos : ∀ b k n, x0 (ix3 b k n) = D.pos b k n
  feat : ∀ b k n, x1 (ix3 b k n) = D.feat b k n
  w1 : ∀ o k, x2 (ix2 o k) = D.w1 o k
  b1 : ∀ o, x3 (ix1 o) = (β1 o : EReal)
  g1 : ∀ o, x4 (ix1 o) = (γ1 o : EReal)
  be1 : ∀ o, x5 (ix1 o) = D.be1 o
  w2 : ∀ o k, x6 (ix2 o k) = D.w2 o k
  b2 : ∀ o, x7 (ix1 o) = (β2 o : EReal)
  g2 : ∀ o, x8 (ix1 o) = (γ2 o : EReal)
  be2 : ∀ o, x9 (ix1 o) = D.be2 o
  w3 : ∀ o k, x10 (ix2 o k) = D.w3 o k
  b3 : ∀ o, x11 (ix1 o) = (β3 o : EReal)
  g3 : ∀ o, x12 (ix1 o) = (γ3 o : EReal)
  be3 : ∀ o, x13 (ix1 o) = D.be3 o
  scales : Stats.RealScales D γ1 γ2 γ3

variable {x0 x1 x2 x3 x4 x5 x6 x7 x8 x9 x10 x11 x12 x13} {D : Net.Data} {β1 γ1 β2 γ2 : Fin 32 → ℝ} {β3 γ3 : Fin 64 → ℝ}
  (H : Reads x0 x1 x2 x3 x4 x5 x6 x7 x8 x9 x10 x11 x12 x13 D β1 γ1 β2 γ2 β3 γ3)

include H

theorem lin1_eq (b : Fin 8) (o : Fin 32) (n : Fin 100000) :
    val_main_v11 (F := Ideal) x0 x1 x2 x3 (ix4 b o n 0) = D.z1 b n o + (β1 o : EReal) := by
  rw [v11_at]
  simp only [H.pos, H.feat, H.w1, H.b1]
  unfold Net.Data.z1
  simp only [mul_comm (D.pos _ _ _), mul_comm (D.feat _ _ _)]

theorem out1_eq (b : Fin 8) (o : Fin 32) (n : Fin 100000) :
    val_main_v30 (F := Ideal) x0 x1 x2 x3 x4 x5 (ix4 b o n 0) = D.h1 b n o := by
  rw [v30_eq x0 x1 x2 x3 x4 x5 _ rfl, norm32_lin _ _ _ o (fun b n => D.z1 b n o) (β1 o) (γ1 o) (fun b n => lin1_eq H b o n) (H.g1 o) b n, H.be1,
    Stats.h1_eq H.scales, Stats.a1_eq H.scales, Stats.c1_eq H.scales]

theorem lin2_eq (b : Fin 8) (o : Fin 32) (n : Fin 100000) :
    val_main_v35 (F := Ideal) x0 x1 x2 x3 x4 x5 x6 x7 (ix4 b o n 0) = D.z2 b n o + (β2 o : EReal) := by
  rw [v35_at]
  simp only [out1_eq H, H.w2, H.b2]
  unfold Net.Data.z2
  simp only [mul_comm (D.h1 _ _ _)]

theorem out2_eq (b : Fin 8) (o : Fin 32) (n : Fin 100000) :
    val_main_v54 (F := Ideal) x0 x1 x2 x3 x4 x5 x6 x7 x8 x9 (ix4 b o n 0) = D.h2 b n o := by
  rw [v54_eq x0 x1 x2 x3 x4 x5 x6 x7 x8 x9 _ rfl, norm32_lin _ _ _ o (fun b n => D.z2 b n o) (β2 o) (γ2 o) (fun b n => lin2_eq H b o n) (H.g2 o) b n, H.be2,
    Stats.h2_eq H.scales, Stats.a2_eq H.scales, Stats.c2_eq H.scales]

theorem lin3_eq (b : Fin 8) (o : Fin 64) (n : Fin 100000) :
    val_main_v59 (F := Ideal) x0 x1 x2 x3 x4 x5 x6 x7 x8 x9 x10 x11 (ix4 b o n 0) = D.z3 b n o + (β3 o : EReal) := by
  rw [v59_at]
  simp only [out2_eq H, H.w3, H.b3]
  unfold Net.Data.z3
  simp only [mul_comm (D.h2 _ _ _)]

/-- The second result is the network's output. -/
theorem out3_eq (b : Fin 8) (o : Fin 64) :
    val_main_v79 (F := Ideal) x0 x1 x2 x3 x4 x5 x6 x7 x8 x9 x10 x11 x12 x13 (ix3 b o 0) = D.out b o := by
  rw [v79_at, Stats.out_eq]
  refine congrArg _ (funext fun n => ?_)
  rw [v78_eq x0 x1 x2 x3 x4 x5 x6 x7 x8 x9 x10 x11 x12 x13 _ rfl,
    norm64_lin _ _ _ o (fun b n => D.z3 b n o) (β3 o) (γ3 o) (fun b n => lin3_eq H b o n) (H.g3 o) b n, H.be3,
    Stats.a3_eq H.scales, Stats.c3_eq H.scales]

end Cert.ReferenceIdeal.Hand

end
-- ==== Proof.Equal.lean ====
/-
  Where the layers' offsets before the normalizations and factors after them are real, the kernel's output and the
  reference's second result are one.
-/
module

public import proofs.«01_k».proof.Proof.Output
public import proofs.«01_k».proof.Proof.Reference

@[expose] public section

noncomputable section

namespace Cert.Equal

open Idealize.ShloMosaic Idealize.ShloMosaic.Pointwise Cert.KernelIdeal.Hand Cert.ReferenceIdeal Cert.ReferenceIdeal.Read

variable (x0 : FVec Ideal S8x3x100000 .f32) (x1 : FVec Ideal S8x16x100000 .f32) (x2 : FVec Ideal S32x19 .f32) (x3 x4 x5 : FVec Ideal S32 .f32)
  (x6 : FVec Ideal S32x32 .f32) (x7 x8 x9 : FVec Ideal S32 .f32) (x10 : FVec Ideal S64x32 .f32) (x11 x12 x13 : FVec Ideal S64 .f32)

/-- The kernel's value and the reference's, element by element. -/
theorem out_eq (h3 : ∀ i, x3 i = ((x3 i).toReal : EReal)) (h4 : ∀ i, x4 i = ((x4 i).toReal : EReal)) (h7 : ∀ i, x7 i = ((x7 i).toReal : EReal))
    (h8 : ∀ i, x8 i = ((x8 i).toReal : EReal)) (h11 : ∀ i, x11 i = ((x11 i).toReal : EReal)) (h12 : ∀ i, x12 i = ((x12 i).toReal : EReal))
    (b : Fin 8) (o : Fin 64) :
    (dataOf x0 x1 x2 x4 x5 x6 x8 x9 x10 x12 x13).out b o
      = val_main_v79 (F := Ideal) x0 x1 x2 x3 x4 x5 x6 x7 x8 x9 x10 x11 x12 x13 (ix3 b o 0) := by
  have hS : Stats.RealScales (dataOf x0 x1 x2 x4 x5 x6 x8 x9 x10 x12 x13) (fun o => (x4 (ix1 o)).toReal) (fun o => (x8 (ix1 o)).toReal)
      (fun o => (x12 (ix1 o)).toReal) := ⟨fun _ => h4 _, fun _ => h8 _, fun _ => h12 _⟩
  have hR : Hand.Reads x0 x1 x2 x3 x4 x5 x6 x7 x8 x9 x10 x11 x12 x13 (dataOf x0 x1 x2 x4 x5 x6 x8 x9 x10 x12 x13)
      (fun o => (x3 (ix1 o)).toReal) (fun o => (x4 (ix1 o)).toReal) (fun o => (x7 (ix1 o)).toReal) (fun o => (x8 (ix1 o)).toReal)
      (fun o => (x11 (ix1 o)).toReal) (fun o => (x12 (ix1 o)).toReal) :=
    ⟨fun _ _ _ => rfl, fun _ _ _ => rfl, fun _ _ => rfl, fun _ => h3 _, fun _ => h4 _, fun _ => rfl, fun _ _ => rfl, fun _ => h7 _,
      fun _ => h8 _, fun _ => rfl, fun _ _ => rfl, fun _ => h11 _, fun _ => h12 _, fun _ => rfl, hS⟩
  exact (Hand.out3_eq hR b o).symm

/-- The two zero results. -/
theorem zeros_eq :
    broadcastInDim Cert.KernelIdeal.S8x3x1 ![] Cert.KernelIdeal.Gen.bcast_S_S8x3x1 (constant (F := Ideal) Cert.KernelIdeal.S_ .f32 0x00000000#32)
      = val_main_v80 (F := Ideal) := by
  funext j
  obtain ⟨a, b, c, rfl⟩ : ∃ a b c, j = ix3 a b c := ⟨j 0, j 1, j 2, by funext a; match a with | ⟨0, _⟩ => rfl | ⟨1, _⟩ => rfl | ⟨2, _⟩ => rfl⟩
  pointwise [val_main_v80, val_main_v2, val_main_cst]

end Cert.Equal

end
-- ==== Proof.Finite.lean ====
/-
  What the precondition says: its side conditions hold, and an argument it names holds real numbers only.
-/
module

public import proofs.«01_k».proof.Pre_finite
public import Idealize.ShloMosaic.Lib.Pointwise
public import Idealize.ShloMosaic.PureOps.Ideal.Laws

@[expose] public section

noncomputable section

namespace Cert.Pre_finite

open Idealize.ShloMosaic Idealize.ShloMosaic.Pointwise

/-- The predicate's shapes broadcast as it needs. -/
theorem facts : Facts where
  bcast_S_S32 := by decide
  bcast_S_S64 := by decide

/-- The word the magnitudes are compared with. -/
theorem top_word : Ideal.ofBits .f32 0x7F800000#32 = ⊤ := by
  simp [Ideal.ofBits, Ideal.ieee]

/-- An extended real whose magnitude is below the top is real. -/
theorem real_of_abs (x : EReal) (h : max x (-x) < ⊤) : x = (x.toReal : EReal) := by
  refine (EReal.coe_toReal (fun e => ?_) (fun e => ?_)).symm
  · rw [e] at h
    exact absurd h (not_lt.2 (le_max_left _ _))
  · rw [e, EReal.neg_bot] at h
    exact absurd h (not_lt.2 (le_max_right _ _))

/-- An array whose every magnitude compares below the top holds real numbers. -/
theorem real_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    x i = ((x i).toReal : EReal) := by
  have hi : Ideal.cmp .olt (max (x i) (-x i)) (Ideal.ofBits .f32 0x7F800000#32) = 1#1 := congrFun h i
  rw [top_word] at hi
  refine real_of_abs _ ?_
  by_contra hc
  simp [Ideal.cmp, hc] at hi

end Cert.Pre_finite

end
-- ==== Proof.Algebraic.lean ====
/-
  The value claim: from memories that agree on the arguments, the layers' offsets before the normalizations and factors after
  them real, both programs end with equal results.
-/
module

public import proofs.«01_k».proof.Defs
public import proofs.«01_k».proof.Proof.Equal
public import proofs.«01_k».proof.Proof.Finite

@[expose] public section

noncomputable section

namespace Cert.Algebraic

open Idealize.ShloMosaic Idealize.ShloMosaic.TcCoe Idealize.SL.Sem Idealize.ShloMosaic.StableHlo Idealize.ShloMosaic.Pointwise

/-- The kernel's second result is the reference's, over arguments the precondition admits. -/
theorem second_eq (m : (ℓ : Loc KernelIdeal.nD KernelIdeal.τ KernelIdeal.sig) → Buf (Elt Ideal) ℓ)
    (hpre : Pre_KernelIdeal_finite (hPre_finite := Pre_finite.facts) m) (c : Dev KernelIdeal.nD) :
    (broadcastInDim KernelIdeal.S8x64x1 ![0, 1] KernelIdeal.Gen.bcast_S8x64_S8x64x1_0_1
        (transpose KernelIdeal.S8x64 [1, 0] (KernelIdeal.Hand.outAt m c) KernelIdeal.Gen.transposes_S64x8_S8x64_1_0))
      = ReferenceIdeal.Read.val_main_v79 (F := Ideal) (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) := by
  have hp := hpre c
  funext j
  obtain ⟨b, o, z, rfl⟩ : ∃ b o z, j = ix3 b o z :=
    ⟨j 0, j 1, j 2, by funext a; match a with | ⟨0, _⟩ => rfl | ⟨1, _⟩ => rfl | ⟨2, _⟩ => rfl⟩
  obtain rfl : z = 0 := Subsingleton.elim (α := Fin 1) _ _
  rw [KernelIdeal.Hand.v5_at]
  exact Equal.out_eq _ _ _ _ _ _ _ _ _ _ _ _ _ _ (Pre_finite.real_of _ _ (hp.1)) (Pre_finite.real_of _ _ (hp.2.1)) (Pre_finite.real_of _ _ (hp.2.2.1)) (Pre_finite.real_of _ _ (hp.2.2.2.1)) (Pre_finite.real_of _ _ (hp.2.2.2.2.1)) (Pre_finite.real_of _ _ (hp.2.2.2.2.2)) b o

/-- Both programs run, their results agree, and the arguments end as they began. -/
theorem algebraic : algebraic_KernelIdeal_ReferenceIdeal_pre_finite (hKernelIdeal := KernelIdeal.Gen.facts)
    (hReferenceIdeal := ReferenceIdeal.Gen.facts) (hPre_finite := Pre_finite.facts) := by
  intro m g m' g' hpre hm
  refine ⟨_, _, KernelIdeal.Hand.value_run m g, (θ_run ReferenceIdeal.defs _ _).mono (fun r h c => ⟨?_, ?_, (h c).2.2⟩)
    (ReferenceIdeal.Value.run (F := Ideal) m' g')⟩
  · exact ((h c).1.trans (ReferenceIdeal.Read.val_main_v80_eq (launchContents m' c))).trans Equal.zeros_eq.symm
  · refine ((h c).2.1.trans (ReferenceIdeal.Read.val_main_v79_eq (launchContents m' c))).trans ?_
    rw [second_eq m hpre c]
    obtain ⟨e0, e1, e2, e3, e4, e5, e6, e7, e8, e9, e10, e11, e12, e13⟩ := hm c
    rw [← e0, ← e1, ← e2, ← e3, ← e4, ← e5, ← e6, ← e7, ← e8, ← e9, ← e10, ← e11, ← e12, ← e13]

end Cert.Algebraic

end
-- ==== Proof.lean ====
/-
  The proof of this directory's claims (Defs.lean): the frames of the kernel as printed, of the idealized kernel and of the
  idealized reference; that idealizing kept the program but for the named constant; and that over arguments the precondition
  admits the idealized kernel and the idealized reference end with equal results. This file only assembles.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Algebraic

@[expose] public section

noncomputable section

namespace Cert.Proof

open Idealize.ShloMosaic Idealize.SL.Sem

/-- The reference runs, keeps its arguments and leaves every counter at zero. -/
theorem reference_frame : quiescent_ReferenceIdeal (hReferenceIdeal := Cert.ReferenceIdeal.Gen.facts) :=
  fun m g _ => (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The claims of this certificate, each from the module that proves it. -/
theorem claim : Cert.Claim := ⟨Cert.Kernel.Gen.facts, Cert.KernelIdeal.Gen.facts, Cert.ReferenceIdeal.Gen.facts, Cert.Pre_finite.facts,
  fun m g _ => Cert.Kernel.Hand.frame_run (F := Bits) m g,
  fun m g _ => Cert.KernelIdeal.Hand.frame_run (F := Ideal) m g,
  fun m g _ => Cert.KernelIdeal.Hand.frame_run (F := Ideal) m g,
  reference_frame,
  fun m g _ => reference_frame m g trivial,
  IdealRules.named_const.statement Cert.KernelIdeal.κ "inv_cnt" .f32 0x35A7C5AC#32 ((1 / 800000 : ℝ) : EReal) rfl,
  Cert.Algebraic.algebraic⟩

end Cert.Proof

end
